-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Pre_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S2x1024x1024 : Shape := ⟨3, ![2, 1024, 1024]⟩
abbrev S3x1024x1024 : Shape := ⟨3, ![3, 1024, 1024]⟩
abbrev S8x1024x128 : Shape := ⟨3, ![8, 1024, 128]⟩
abbrev S6 : Shape := ⟨1, ![6]⟩
abbrev S2 : Shape := ⟨1, ![2]⟩
abbrev S_ : Shape := ⟨0, ![]⟩
abbrev S1 : Shape := ⟨1, ![1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S256x512 : Shape := ⟨2, ![256, 512]⟩
abbrev S1x256x1024 : Shape := ⟨3, ![1, 256, 1024]⟩
abbrev S256x1024 : Shape := ⟨2, ![256, 1024]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S128x1024 : Shape := ⟨2, ![128, 1024]⟩
abbrev S1x128x1024 : Shape := ⟨3, ![1, 128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x1024x1024, .f32⟩
  | .local _ .vmem, ⟨5, _⟩ => ⟨S3x1024x1024, .f32⟩
  | .local _ .vmem, ⟨6, _⟩ => ⟨S8x1024x128, .f32⟩
  | .local _ .vmem, ⟨7, _⟩ => ⟨S8x1024x128, .f32⟩
  | .local _ .vmem, ⟨8, _⟩ => ⟨S1024x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 3 18 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_41 : BitVec 32 := 0#32
  let c8_i32 : BitVec 32 := 8#32
  let v13 : BitVec 32 := Scalar.muli v2 c8_i32
  let v14 : BitVec 32 := Scalar.addi v13 c0_i32_10
  let c0_i32_42 : BitVec 32 := 0#32
  ![v2.toNat, 0, v14.toNat, 0]
def k0_dev3 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_136 : BitVec 32 := 1#32
  let v141 : BitVec 32 := Scalar.muli v7 c1_i32_136
  let v142 : BitVec 32 := Scalar.addi c0_i32_137 v141
  v142.toNat
def k0_dev4 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_143 : BitVec 32 := 1#32
  let v149 : BitVec 32 := Scalar.muli v5 c1_i32_143
  let v150 : BitVec 32 := Scalar.addi c0_i32_144 v149
  v150.toNat
def k0_dev5 (d0 : Dev nD) : Nat :=
  let c0_i32_680 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_679 : BitVec 32 := 1#32
  let v878 : BitVec 32 := Scalar.muli v7 c1_i32_679
  let v879 : BitVec 32 := Scalar.addi c0_i32_680 v878
  v879.toNat
def k0_dev6 (d0 : Dev nD) : Nat :=
  let c0_i32_690 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_689 : BitVec 32 := 1#32
  let v888 : BitVec 32 := Scalar.muli v5 c1_i32_689
  let v889 : BitVec 32 := Scalar.addi c0_i32_690 v888
  v889.toNat
def k0_off2 (d0 : Dev nD) (c0_i32_696 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_731 : BitVec 32 := 0#32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c8_i32_695 : BitVec 32 := 8#32
  let v898 : BitVec 32 := Scalar.muli v5 c8_i32_695
  let v899 : BitVec 32 := Scalar.addi v898 c0_i32_696
  let c0_i32_732 : BitVec 32 := 0#32
  ![v2.toNat, 0, v899.toNat, 0]
def k0_dev7 (d0 : Dev nD) : Nat :=
  let c0_i32_1314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1313 : BitVec 32 := 1#32
  let v1668 : BitVec 32 := Scalar.muli v5 c1_i32_1313
  let v1669 : BitVec 32 := Scalar.addi c0_i32_1314 v1668
  v1669.toNat
def k0_dev8 (d0 : Dev nD) : Nat :=
  let c0_i32_1342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1341 : BitVec 32 := 1#32
  let v1686 : BitVec 32 := Scalar.muli v7 c1_i32_1341
  let v1687 : BitVec 32 := Scalar.addi c0_i32_1342 v1686
  v1687.toNat
def k0_dev9 (d0 : Dev nD) : Nat :=
  let c0_i32_1352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1351 : BitVec 32 := 1#32
  let v1696 : BitVec 32 := Scalar.muli v5 c1_i32_1351
  let v1697 : BitVec 32 := Scalar.addi c0_i32_1352 v1696
  v1697.toNat
def k0_off3 (d0 : Dev nD) (c2_i32_1357 : BitVec 32) (c0_i32_1360 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1395 : BitVec 32 := 0#32
  let v1706 : BitVec 32 := Scalar.addi v2 c2_i32_1357
  let c4_i32_1358 : BitVec 32 := 4#32
  let v1707 : BitVec 32 := Scalar.remsi v1706 c4_i32_1358
  let c8_i32_1359 : BitVec 32 := 8#32
  let v1708 : BitVec 32 := Scalar.muli v1707 c8_i32_1359
  let v1709 : BitVec 32 := Scalar.addi v1708 c0_i32_1360
  let c0_i32_1396 : BitVec 32 := 0#32
  ![v2.toNat, 0, v1709.toNat, 0]
def k0_dev10 (d0 : Dev nD) : Nat :=
  let c0_i32_3028 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3027 : BitVec 32 := 1#32
  let v3562 : BitVec 32 := Scalar.muli v5 c1_i32_3027
  let v3563 : BitVec 32 := Scalar.addi c0_i32_3028 v3562
  v3563.toNat
def k0_dev11 (d0 : Dev nD) : Nat :=
  let c0_i32_3031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3030 : BitVec 32 := 1#32
  let v3564 : BitVec 32 := Scalar.muli v7 c1_i32_3030
  let v3565 : BitVec 32 := Scalar.addi c0_i32_3031 v3564
  v3565.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x1024x4096, .f32⟩
  | .hbm, ⟨6, _⟩ => ⟨S4x1024x32x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S4x32x1024x1024, .f32⟩
  | .hbm, ⟨19, _⟩ => ⟨S_, .f32⟩
  | .hbm, ⟨20, _⟩ => ⟨S4x32x1024x1024, .f32⟩
  | .hbm, ⟨21, _⟩ => ⟨S4x32x1024x1024, .f32⟩
  | .hbm, ⟨22, _⟩ => ⟨S1x1x1024x1024, .i1⟩
  | .hbm, ⟨23, _⟩ => ⟨S_, .f32⟩
  | .hbm, ⟨24, _⟩ => ⟨S_, .f32⟩
  | .hbm, ⟨25, _⟩ => ⟨S4x32x1024x1024, .i1⟩
  | .hbm, ⟨26, _⟩ => ⟨S4x32x1024x1024, .f32⟩
  | .hbm, ⟨27, _⟩ => ⟨S4x32x1024x1024, .f32⟩
  | .hbm, ⟨28, _⟩ => ⟨S_, .f32⟩
  | .hbm, ⟨29, _⟩ => ⟨S4x32x1024, .f32⟩
  | .hbm, ⟨30, _⟩ => ⟨S4x32x1024x1, .f32⟩
  | .hbm, ⟨31, _⟩ => ⟨S4x32x1024x1024, .f32⟩
  | .hbm, ⟨32, _⟩ => ⟨S4x32x1024x1024, .f32⟩
  | .hbm, ⟨33, _⟩ => ⟨S4x32x1024x1024, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S4x32x1024, .f32⟩
  | .hbm, ⟨39, _⟩ => ⟨S4x32x1024x1, .f32⟩
  | .hbm, ⟨40, _⟩ => ⟨S_, .f32⟩
  | .hbm, ⟨41, _⟩ => ⟨S_, .f32⟩
  | .hbm, ⟨42, _⟩ => ⟨S4x32x1024x1, .i1⟩
  | .hbm, ⟨43, _⟩ => ⟨S4x32x1024x1, .f32⟩
  | .hbm, ⟨44, _⟩ => ⟨S4x32x1024x1, .f32⟩
  | .hbm, ⟨45, _⟩ => ⟨S4x32x1024x1024, .f32⟩
  | .hbm, ⟨46, _⟩ => ⟨S4x32x1024x1024, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S4x32x1024x1024, .i1⟩
  | .hbm, ⟨51, _⟩ => ⟨S4x32x1024x1024, .f32⟩
  | .hbm, ⟨52, _⟩ => ⟨S4x32x1024x1024, .f32⟩
  | .hbm, ⟨53, _⟩ => ⟨S4x32x128x1024, .f32⟩
  | .hbm, ⟨54, _⟩ => ⟨S4x1024x32x128, .f32⟩
  | .hbm, ⟨55, _⟩ => ⟨S4x1024x4096, .f32⟩
  | .hbm, ⟨56, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Schedule.lean ====
/-
# `Schedule`: the ring, its slots and semaphore cells, and who pays what to whom

Four devices stand on a ring. Device `c`'s right neighbour is `nxt c`, its left one `prv c`. Blocks of `Wq` travel
right through the two slots of a scratch buffer, blocks of `Wo` travel left through the three slots of another. This
module names the slots and the cells, states the schedule of every cell (which duties it has, how many units each
pays, which memory each hands over), what a device owes when it starts, and the levels under which every wait is
allowed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix3 eq_ix2 reshapeEquiv_ix2_1ab)

variable {F : FTy → Type}

/-! ## The resource algebra -/

/-- The ring's own component: rounds with duties named by a Boolean. -/
abbrev UB : Type := URounds (GSem nD τ sig) Bool
/-- The pipeline library's component, the ring's, and the counters of the local transfers. -/
abbrev UU : Type := UR sig nD τ × (UB × Counters)

local notation "𝕄" => MT nD τ sig Unit (Elt F) ℕ UU ℕ

/-- The pipeline library's component among the resources, -/
abbrev EP : Emb (UR sig nD τ) (MT nD τ sig Unit (Elt F) ℕ UU ℕ) := embL
/-- the other two together, -/
abbrev EX : Emb (UB × Counters) (MT nD τ sig Unit (Elt F) ℕ UU ℕ) := embR
/-- and the ring's. -/
abbrev ER : Emb UB (MT nD τ sig Unit (Elt F) ℕ UU ℕ) := (Emb.inl : Emb UB (UB × Counters)).trans EX

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

/-- The left neighbour of the right neighbour is the device itself. -/
theorem prv_nxt (c : Dev nD) : prv (nxt c) = c := by revert c; decide
/-- The right neighbour of the left neighbour is the device itself. -/
theorem nxt_prv (c : Dev nD) : nxt (prv c) = c := by revert c; decide

/-- The ring as a permutation of the devices. -/
def ring : Dev nD ≃ Dev nD := ⟨nxt, prv, prv_nxt, nxt_prv⟩

/-! The addressed device of every signal and transfer of the body. -/
/-- The device addressed by the body's signal or transfer number 1 is the left neighbour. -/
theorem dev1_eq (c : Dev nD) : (⟨k0_dev1 c, k0_dev1_lt c⟩ : Dev nD) = prv c := Fin.ext (k0_dev1_eq c)
/-- The device addressed by the body's signal or transfer number 2 is the right neighbour. -/
theorem dev2_eq (c : Dev nD) : (⟨k0_dev2 c, k0_dev2_lt c⟩ : Dev nD) = nxt c := Fin.ext (k0_dev2_eq c)
/-- The device addressed by the body's signal or transfer number 3 is the right neighbour. -/
theorem dev3_eq (c : Dev nD) : (⟨k0_dev3 c, k0_dev3_lt c⟩ : Dev nD) = nxt c := Fin.ext (k0_dev3_eq c)
/-- The device addressed by the body's signal or transfer number 4 is the left neighbour. -/
theorem dev4_eq (c : Dev nD) : (⟨k0_dev4 c, k0_dev4_lt c⟩ : Dev nD) = prv c := Fin.ext (k0_dev4_eq c)
/-- The device addressed by the body's signal or transfer number 5 is the right neighbour. -/
theorem dev5_eq (c : Dev nD) : (⟨k0_dev5 c, k0_dev5_lt c⟩ : Dev nD) = nxt c := Fin.ext (k0_dev5_eq c)
/-- The device addressed by the body's signal or transfer number 6 is the left neighbour. -/
theorem dev6_eq (c : Dev nD) : (⟨k0_dev6 c, k0_dev6_lt c⟩ : Dev nD) = prv c := Fin.ext (k0_dev6_eq c)
/-- The device addressed by the body's signal or transfer number 7 is the left neighbour. -/
theorem dev7_eq (c : Dev nD) : (⟨k0_dev7 c, k0_dev7_lt c⟩ : Dev nD) = prv c := Fin.ext (k0_dev7_eq c)
/-- The device addressed by the body's signal or transfer number 8 is the right neighbour. -/
theorem dev8_eq (c : Dev nD) : (⟨k0_dev8 c, k0_dev8_lt c⟩ : Dev nD) = nxt c := Fin.ext (k0_dev8_eq c)
/-- The device addressed by the body's signal or transfer number 9 is the left neighbour. -/
theorem dev9_eq (c : Dev nD) : (⟨k0_dev9 c, k0_dev9_lt c⟩ : Dev nD) = prv c := Fin.ext (k0_dev9_eq c)
/-- The device addressed by the body's signal or transfer number 10 is the left neighbour. -/
theorem dev10_eq (c : Dev nD) : (⟨k0_dev10 c, k0_dev10_lt c⟩ : Dev nD) = prv c := Fin.ext (k0_dev10_eq c)
/-- The device addressed by the body's signal or transfer number 11 is the right neighbour. -/
theorem dev11_eq (c : Dev nD) : (⟨k0_dev11 c, k0_dev11_lt c⟩ : Dev nD) = nxt c := Fin.ext (k0_dev11_eq c)

/-! ## The slots and the cells -/

/-- The buffer of the travelling blocks of `Wq`, -/
abbrev qM : Memref sig .tc .vmem S2x1024x1024 .f32 := Memref.whole cc0_scratch0
/-- that of the travelling blocks of `Wo`, -/
abbrev oM : Memref sig .tc .vmem S3x1024x1024 .f32 := Memref.whole cc0_scratch1
/-- the device's own block of `Wq`, -/
abbrev wqM : Memref sig .tc .vmem S1024x1024 .f32 := Memref.whole cc0_stg1_0
/-- and its own block of `Wo`. -/
abbrev woM : Memref sig .tc .vmem S1024x1024 .f32 := Memref.whole cc0_stg2_0

/-- The two slots the blocks of `Wq` pass through. -/
abbrev slotQ0 : Memref sig .tc .vmem S1024x1024 .f32 :=
  (qM.slice (Rect.unit (s := S2x1024x1024) ![0, 0, 0] S1x1024x1024.size inb_S2x1024x1024_S1x1024x1024_0_0_0) (fun _ => rfl)).squeeze S1024x1024 squeezes_S1x1024x1024_S1024x1024
/-- The second of the two. -/
abbrev slotQ1 : Memref sig .tc .vmem S1024x1024 .f32 :=
  (qM.slice (Rect.unit (s := S2x1024x1024) ![1, 0, 0] S1x1024x1024.size inb_S2x1024x1024_S1x1024x1024_1_0_0) (fun _ => rfl)).squeeze S1024x1024 squeezes_S1x1024x1024_S1024x1024
/-- The three slots the blocks of `Wo` pass through. -/
abbrev slotO0 : Memref sig .tc .vmem S1024x1024 .f32 :=
  (oM.slice (Rect.unit (s := S3x1024x1024) ![0, 0, 0] S1x1024x1024.size inb_S3x1024x1024_S1x1024x1024_0_0_0) (fun _ => rfl)).squeeze S1024x1024 squeezes_S1x1024x1024_S1024x1024
/-- The second of the three, -/
abbrev slotO1 : Memref sig .tc .vmem S1024x1024 .f32 :=
  (oM.slice (Rect.unit (s := S3x1024x1024) ![1, 0, 0] S1x1024x1024.size inb_S3x1024x1024_S1x1024x1024_1_0_0) (fun _ => rfl)).squeeze S1024x1024 squeezes_S1x1024x1024_S1024x1024
/-- and the third. -/
abbrev slotO2 : Memref sig .tc .vmem S1024x1024 .f32 :=
  (oM.slice (Rect.unit (s := S3x1024x1024) ![2, 0, 0] S1x1024x1024.size inb_S3x1024x1024_S1x1024x1024_2_0_0) (fun _ => rfl)).squeeze S1024x1024 squeezes_S1x1024x1024_S1024x1024

/-- A regular semaphore of device `c`, and a DMA one. -/
abbrev rcell (c : Dev nD) (s : Sem sig) : GSem nD τ sig := ((c : Thread nD τ), .reg s)
/-- A DMA semaphore of device `c`. -/
abbrev dcell (c : Dev nD) (s : DmaSem sig) : GSem nD τ sig := ((c : Thread nD τ), .dma s)

/-- The units a slot's transfer credits. -/
abbrev N : ℕ := 131072

/-! ## Contents -/

/-- A block of `Wq` (of `Wo`) as every slot of the buffer it passes through. -/
def bufQ (W : S1024x1024.Idx → Elt F .f32) : S2x1024x1024.Idx → Elt F .f32 := fun i => W (ix2 (i 1) (i 2))
/-- A block of `Wo` as every slot of its buffer. -/
def bufO (W : S1024x1024.Idx → Elt F .f32) : S3x1024x1024.Idx → Elt F .f32 := fun i => W (ix2 (i 1) (i 2))

/-- The position of a slot's element in the slot's one-block stack. -/
theorem slot_idx (h : S1024x1024.numel = S1x1024x1024.numel) (i : S1024x1024.Idx) :
    Shape.reshapeEquiv (s := S1x1024x1024) (s' := S1024x1024) h i = ix3 (⟨0, Nat.one_pos⟩ : Fin 1) (i 0) (i 1) := by
  obtain ⟨x, y, rfl⟩ : ∃ (x y : Fin 1024), i = ix2 x y := ⟨i 0, i 1, eq_ix2 i⟩
  exact reshapeEquiv_ix2_1ab h x y

/-- The index with an element's two coordinates, each offset by zero, is that element's. -/
theorem unslot {x y : Fin 1024} (i : S1024x1024.Idx) (hx : x.val = 0 + 1 * (i 0).val) (hy : y.val = 0 + 1 * (i 1).val) :
    (ix2 x y : S1024x1024.Idx) = i := by
  funext a
  match a with
  | ⟨0, _⟩ => exact Fin.ext (by show x.val = (i 0).val; omega)
  | ⟨1, _⟩ => exact Fin.ext (by show y.val = (i 1).val; omega)

/-- The block number `k` of a stack of blocks: its elements are those with first coordinate `k`. -/
theorem mem_block {n k : ℕ} (inb) (i : (⟨3, ![n, 1024, 1024]⟩ : Shape).Idx) :
    i ∈ (Rect.unit (s := (⟨3, ![n, 1024, 1024]⟩ : Shape)) ![k, 0, 0] S1x1024x1024.size inb).set ↔ (i 0).val = k := by
  rw [Rect.mem_set_unit]
  refine ⟨fun h => ?_, fun h a => ?_⟩
  · have h0 : k ≤ (i 0).val ∧ (i 0).val < k + 1 := h 0
    omega
  · match a with
    | ⟨0, _⟩ => exact ⟨by show k ≤ (i 0).val; omega, by show (i 0).val < k + 1; omega⟩
    | ⟨1, _⟩ => exact ⟨Nat.zero_le _, by show (i 1).val < 0 + 1024; rw [Nat.zero_add]; exact (i 1).isLt⟩
    | ⟨2, _⟩ => exact ⟨Nat.zero_le _, by show (i 2).val < 0 + 1024; rw [Nat.zero_add]; exact (i 2).isLt⟩

/-- A whole stack read at one of its blocks. -/
theorem read_block {n k : ℕ} (inb) (W : S1024x1024.Idx → Elt F .f32) (i : S1024x1024.Idx) :
    (fun j : (⟨3, ![n, 1024, 1024]⟩ : Shape).Idx => W (ix2 (j 1) (j 2)))
      ((Rect.unit (s := (⟨3, ![n, 1024, 1024]⟩ : Shape)) ![k, 0, 0] S1x1024x1024.size inb).emb
        (Shape.reshapeEquiv (s := S1x1024x1024) (s' := S1024x1024) squeezes_S1x1024x1024_S1024x1024.numel_eq i)) = W i := by
  rw [slot_idx]
  exact congrArg W (unslot i rfl rfl)

/-! Reading a slot of such a buffer gives the block. -/
/-- Slot 0 of the `Wq` buffer, every slot of which is `W`, reads as `W`. -/
theorem read_slotQ0 (W : S1024x1024.Idx → Elt F .f32) : slotQ0.view.read (Elt F) (bufQ W) = W := funext fun i => read_block _ W i
/-- Slot 1 of the `Wq` buffer, every slot of which is `W`, reads as `W`. -/
theorem read_slotQ1 (W : S1024x1024.Idx → Elt F .f32) : slotQ1.view.read (Elt F) (bufQ W) = W := funext fun i => read_block _ W i
/-- Slot 0 of the `Wo` buffer, every slot of which is `W`, reads as `W`. -/
theorem read_slotO0 (W : S1024x1024.Idx → Elt F .f32) : slotO0.view.read (Elt F) (bufO W) = W := funext fun i => read_block _ W i
/-- Slot 1 of the `Wo` buffer, every slot of which is `W`, reads as `W`. -/
theorem read_slotO1 (W : S1024x1024.Idx → Elt F .f32) : slotO1.view.read (Elt F) (bufO W) = W := funext fun i => read_block _ W i
/-- Slot 2 of the `Wo` buffer, every slot of which is `W`, reads as `W`. -/
theorem read_slotO2 (W : S1024x1024.Idx → Elt F .f32) : slotO2.view.read (Elt F) (bufO W) = W := funext fun i => read_block _ W i

/-! The elements of a slot are those with the slot's number as their first coordinate. -/
/-- An element lies in slot 0 of the `Wq` buffer exactly when its first coordinate is 0. -/
theorem mem_slotQ0 (i : S2x1024x1024.Idx) : i ∈ slotQ0.view.set ↔ (i 0).val = 0 := by
  rw [show slotQ0.view.set = _ from (View.set_reshape _ _).trans (View.set_slice_whole _ _)]; exact mem_block _ i
/-- An element lies in slot 1 of the `Wq` buffer exactly when its first coordinate is 1. -/
theorem mem_slotQ1 (i : S2x1024x1024.Idx) : i ∈ slotQ1.view.set ↔ (i 0).val = 1 := by
  rw [show slotQ1.view.set = _ from (View.set_reshape _ _).trans (View.set_slice_whole _ _)]; exact mem_block _ i
/-- An element lies in slot 0 of the `Wo` buffer exactly when its first coordinate is 0. -/
theorem mem_slotO0 (i : S3x1024x1024.Idx) : i ∈ slotO0.view.set ↔ (i 0).val = 0 := by
  rw [show slotO0.view.set = _ from (View.set_reshape _ _).trans (View.set_slice_whole _ _)]; exact mem_block _ i
/-- An element lies in slot 1 of the `Wo` buffer exactly when its first coordinate is 1. -/
theorem mem_slotO1 (i : S3x1024x1024.Idx) : i ∈ slotO1.view.set ↔ (i 0).val = 1 := by
  rw [show slotO1.view.set = _ from (View.set_reshape _ _).trans (View.set_slice_whole _ _)]; exact mem_block _ i
/-- An element lies in slot 2 of the `Wo` buffer exactly when its first coordinate is 2. -/
theorem mem_slotO2 (i : S3x1024x1024.Idx) : i ∈ slotO2.view.set ↔ (i 0).val = 2 := by
  rw [show slotO2.view.set = _ from (View.set_reshape _ _).trans (View.set_slice_whole _ _)]; exact mem_block _ i

/-- What a slot holds after the block `X` landed in it, whatever it held before: any contents that read as `X`. -/
theorem landed_eq (c : Thread nD τ) {s : Shape} {e : EltTy} (v : View sig c.2.kind .vmem s e) (q : PosShare TreeShare)
    (fd g : Buf (Elt F) (v.loc c)) (X : s.Idx → Elt F e) (h : v.read (Elt F) g = X) :
    (v.loc c ↦[v.set]{q} v.write (Elt F) fd X Finset.univ : sProp 𝕄) = v.loc c ↦[v.set]{q} g := by
  subst h
  rw [View.write_read_eq_piecewise]
  exact pointsTo_congr fun i hi => Finset.piecewise_eq_of_mem _ _ _ hi

/-! ## The schedule -/

section Schedule

variable (WQ WO : Dev nD → S1024x1024.Idx → Elt F .f32)

/-- A slot of device `c` at contents `f`, with share `q`. -/
abbrev sPts (c : Dev nD) (M : Memref sig .tc .vmem S1024x1024 .f32) (q : PosShare TreeShare) (f : Buf (Elt F) (M.view.loc (c : Thread nD τ))) : sProp 𝕄 :=
  M.view.loc (c : Thread nD τ) ↦[M.view.set]{q} f

/-- A slot of device `c` free to be written. -/
abbrev sFree (c : Dev nD) (M : Memref sig .tc .vmem S1024x1024 .f32) : sProp 𝕄 := iprop(∃ f, ((M.view.loc (c : Thread nD τ)) ↦[M.view.set]{fullShare} f))

/-- What the duty `d` of the cell of device `c`'s semaphore `s` hands to `c`.
    DMA semaphores 4–9 are the departures (three of `Wq`, three of `Wo`), 10–15 the arrivals; regular semaphore 0 is
    the credit for slot 0, 2 the barrier. -/
def pay (c : Dev nD) : SemLoc sig → Bool → sProp 𝕄
  | .dma ⟨4, _⟩, _ => ((wqM.view.loc (c : Thread nD τ)) ↦[wqM.view.set]{fullShare.left} (WQ c))
  | .dma ⟨5, _⟩, _ => ((slotQ0.view.loc (c : Thread nD τ)) ↦[slotQ0.view.set]{fullShare.left} (bufQ (WQ (prv c))))
  | .dma ⟨6, _⟩, _ => ((slotQ1.view.loc (c : Thread nD τ)) ↦[slotQ1.view.set]{fullShare.left} (bufQ (WQ (prv (prv c)))))
  | .dma ⟨7, _⟩, _ => ((woM.view.loc (c : Thread nD τ)) ↦[woM.view.set]{fullShare.left} (WO c))
  | .dma ⟨8, _⟩, _ => ((slotO0.view.loc (c : Thread nD τ)) ↦[slotO0.view.set]{fullShare.left} (bufO (WO (nxt c))))
  | .dma ⟨9, _⟩, _ => ((slotO1.view.loc (c : Thread nD τ)) ↦[slotO1.view.set]{fullShare.left} (bufO (WO (nxt (nxt c)))))
  | .dma ⟨10, _⟩, _ => iprop(∃ fd, slotQ0.view.loc (c : Thread nD τ) ↦[slotQ0.view.set]{fullShare} slotQ0.view.write (Elt F) fd (wqM.view.read (Elt F) (WQ (prv c))) Finset.univ)
  | .dma ⟨11, _⟩, _ => iprop(∃ fd, slotQ1.view.loc (c : Thread nD τ) ↦[slotQ1.view.set]{fullShare} slotQ1.view.write (Elt F) fd (slotQ0.view.read (Elt F) (bufQ (WQ (prv (prv c))))) Finset.univ)
  | .dma ⟨12, _⟩, _ => iprop(∃ fd, slotQ0.view.loc (c : Thread nD τ) ↦[slotQ0.view.set]{fullShare} slotQ0.view.write (Elt F) fd (slotQ1.view.read (Elt F) (bufQ (WQ (prv (prv (prv c)))))) Finset.univ)
  | .dma ⟨13, _⟩, _ => iprop(∃ fd, slotO0.view.loc (c : Thread nD τ) ↦[slotO0.view.set]{fullShare} slotO0.view.write (Elt F) fd (woM.view.read (Elt F) (WO (nxt c))) Finset.univ)
  | .dma ⟨14, _⟩, _ => iprop(∃ fd, slotO1.view.loc (c : Thread nD τ) ↦[slotO1.view.set]{fullShare} slotO1.view.write (Elt F) fd (slotO0.view.read (Elt F) (bufO (WO (nxt (nxt c))))) Finset.univ)
  | .dma ⟨15, _⟩, _ => iprop(∃ fd, slotO2.view.loc (c : Thread nD τ) ↦[slotO2.view.set]{fullShare} slotO2.view.write (Elt F) fd (slotO1.view.read (Elt F) (bufO (WO (nxt (nxt (nxt c)))))) Finset.univ)
  | .reg ⟨0, _⟩, _ => iprop(((slotQ0.view.loc (nxt c : Thread nD τ)) ↦[slotQ0.view.set]{fullShare.left} (bufQ (WQ c))) ∗ ((slotQ0.view.loc (nxt c : Thread nD τ)) ↦[slotQ0.view.set]{fullShare.right} (bufQ (WQ c))))
  | .reg ⟨2, _⟩, false => iprop(sFree (prv c) slotO0 ∗ sFree (prv c) slotO1 ∗ sFree (prv c) slotO2)
  | .reg ⟨2, _⟩, true => iprop(sFree (nxt c) slotQ0 ∗ sFree (nxt c) slotQ1)
  | _, _ => iprop(emp)

instance sFree_storable (c : Dev nD) (M : Memref sig .tc .vmem S1024x1024 .f32) :
    BI.Storable (upEmb : UEmb _ 𝕄) (sFree (F := F) c M) := by unfold sFree; infer_instance

set_option synthInstance.maxHeartbeats 400000 in
instance pay_storable (c : Dev nD) (s : SemLoc sig) (d : Bool) : BI.Storable (upEmb : UEmb _ 𝕄) (pay WQ WO c s d) := by
  unfold pay
  split <;> infer_instance

/-- The duties of a cell's one round: a DMA cell and the credit cell have one, the exit and barrier cells two. -/
def duty : SemLoc sig → Finset Bool
  | .dma _ => {false}
  | .reg ⟨0, _⟩ => {false}
  | .reg _ => Finset.univ

/-- The units of a duty. -/
def units : SemLoc sig → ℕ
  | .dma _ => N
  | .reg _ => 1

/-- Every cell has one round, round 0. -/
def ringRd : Rounds.Schedule (GSem nD τ sig) Bool 𝕄 where
  duties g r := if r = 0 then duty g.2 else ∅
  unitless _ := False
  amount g _ _ := units g.2
  payload g _ d := pay WQ WO g.1.1 g.2 d
  amount_pos g _ _ _ := by
    cases h : g.2 <;> simp [units]

instance ringRd_payload_storable (g : GSem nD τ sig) (r : ℕ) (d : Bool) :
    BI.Storable (upEmb : UEmb _ 𝕄) ((ringRd WQ WO).payload g r d) := pay_storable WQ WO _ _ _

variable (c : Dev nD)

/-- A DMA cell has one duty. -/
theorem duties_dma (s : DmaSem sig) : (ringRd WQ WO).duties (dcell c s) 0 = {false} := rfl
/-- The credit cell has one duty. -/
theorem duties_credit : (ringRd WQ WO).duties (rcell c ⟨0, by decide⟩) 0 = {false} := rfl
/-- The exit cell has two duties, one for each neighbour. -/
theorem duties_exit : (ringRd WQ WO).duties (rcell c ⟨1, by decide⟩) 0 = {false, true} := by
  show (Finset.univ : Finset Bool) = {false, true}
  decide
/-- The barrier cell has two duties, one for each neighbour. -/
theorem duties_bar : (ringRd WQ WO).duties (rcell c ⟨2, by decide⟩) 0 = {false, true} := by
  show (Finset.univ : Finset Bool) = {false, true}
  decide
/-- No cell has a duty after round 0. -/
theorem duties_later (g : GSem nD τ sig) : ∀ r, 1 ≤ r → (ringRd WQ WO).duties g r = ∅ :=
  fun r hr => if_neg (by omega)

/-- The duty of a DMA cell is worth a block's units. -/
theorem amount_dma (s : DmaSem sig) (d : Bool) : (ringRd WQ WO).amount (dcell c s) 0 d = N := rfl
/-- A duty of a regular cell is worth one unit. -/
theorem amount_reg (s : Sem sig) (d : Bool) : (ringRd WQ WO).amount (rcell c s) 0 d = 1 := rfl

/-- A DMA cell's round brings a block's units. -/
theorem expect_dma (s : DmaSem sig) : (ringRd WQ WO).expect (dcell c s) 0 = N := by
  unfold Schedule.expect Schedule.amountOf; rw [duties_dma, Finset.sum_singleton, amount_dma]
/-- The credit cell's round brings one unit. -/
theorem expect_credit : (ringRd WQ WO).expect (rcell c ⟨0, by decide⟩) 0 = 1 := by
  unfold Schedule.expect Schedule.amountOf; rw [duties_credit, Finset.sum_singleton, amount_reg]
/-- The exit cell's round brings two units. -/
theorem expect_exit : (ringRd WQ WO).expect (rcell c ⟨1, by decide⟩) 0 = 2 := by
  unfold Schedule.expect Schedule.amountOf; rw [duties_exit]; rfl
/-- The barrier cell's round brings two units. -/
theorem expect_bar : (ringRd WQ WO).expect (rcell c ⟨2, by decide⟩) 0 = 2 := by
  unfold Schedule.expect Schedule.amountOf; rw [duties_bar]; rfl

/-- The first departure of `Wq` gives back the half lent of the device's own block. -/
theorem payload_send0 (d : Bool) : (ringRd WQ WO).payload (dcell c ⟨4, by decide⟩) 0 d = ((wqM.view.loc (c : Thread nD τ)) ↦[wqM.view.set]{fullShare.left} (WQ c)) := rfl
/-- The second departure of `Wq` gives back the half lent of slot 0, with the left neighbour's block. -/
theorem payload_send1 (d : Bool) : (ringRd WQ WO).payload (dcell c ⟨5, by decide⟩) 0 d = ((slotQ0.view.loc (c : Thread nD τ)) ↦[slotQ0.view.set]{fullShare.left} (bufQ (WQ (prv c)))) := rfl
/-- The third departure of `Wq` gives back the half lent of slot 1, with the block from two places to the left. -/
theorem payload_send2 (d : Bool) : (ringRd WQ WO).payload (dcell c ⟨6, by decide⟩) 0 d = ((slotQ1.view.loc (c : Thread nD τ)) ↦[slotQ1.view.set]{fullShare.left} (bufQ (WQ (prv (prv c))))) := rfl
/-- The first departure of `Wo` gives back the half lent of the device's own block. -/
theorem payload_send3 (d : Bool) : (ringRd WQ WO).payload (dcell c ⟨7, by decide⟩) 0 d = ((woM.view.loc (c : Thread nD τ)) ↦[woM.view.set]{fullShare.left} (WO c)) := rfl
/-- The second departure of `Wo` gives back the half lent of slot 0, with the right neighbour's block. -/
theorem payload_send4 (d : Bool) : (ringRd WQ WO).payload (dcell c ⟨8, by decide⟩) 0 d = ((slotO0.view.loc (c : Thread nD τ)) ↦[slotO0.view.set]{fullShare.left} (bufO (WO (nxt c)))) := rfl
/-- The third departure of `Wo` gives back the half lent of slot 1, with the block from two places to the right. -/
theorem payload_send5 (d : Bool) : (ringRd WQ WO).payload (dcell c ⟨9, by decide⟩) 0 d = ((slotO1.view.loc (c : Thread nD τ)) ↦[slotO1.view.set]{fullShare.left} (bufO (WO (nxt (nxt c))))) := rfl
/-- The first arrival of `Wq` gives slot 0 with the left neighbour's block written in it. -/
theorem payload_recv0 (d : Bool) : (ringRd WQ WO).payload (dcell c ⟨10, by decide⟩) 0 d = iprop(∃ fd, slotQ0.view.loc (c : Thread nD τ) ↦[slotQ0.view.set]{fullShare} slotQ0.view.write (Elt F) fd (wqM.view.read (Elt F) (WQ (prv c))) Finset.univ) := rfl
/-- The second arrival of `Wq` gives slot 1 with the block from two places to the left written in it. -/
theorem payload_recv1 (d : Bool) : (ringRd WQ WO).payload (dcell c ⟨11, by decide⟩) 0 d = iprop(∃ fd, slotQ1.view.loc (c : Thread nD τ) ↦[slotQ1.view.set]{fullShare} slotQ1.view.write (Elt F) fd (slotQ0.view.read (Elt F) (bufQ (WQ (prv (prv c))))) Finset.univ) := rfl
/-- The third arrival of `Wq` gives slot 0 with the block from three places to the left written in it. -/
theorem payload_recv2 (d : Bool) : (ringRd WQ WO).payload (dcell c ⟨12, by decide⟩) 0 d = iprop(∃ fd, slotQ0.view.loc (c : Thread nD τ) ↦[slotQ0.view.set]{fullShare} slotQ0.view.write (Elt F) fd (slotQ1.view.read (Elt F) (bufQ (WQ (prv (prv (prv c)))))) Finset.univ) := rfl
/-- The first arrival of `Wo` gives slot 0 with the right neighbour's block written in it. -/
theorem payload_recv3 (d : Bool) : (ringRd WQ WO).payload (dcell c ⟨13, by decide⟩) 0 d = iprop(∃ fd, slotO0.view.loc (c : Thread nD τ) ↦[slotO0.view.set]{fullShare} slotO0.view.write (Elt F) fd (woM.view.read (Elt F) (WO (nxt c))) Finset.univ) := rfl
/-- The second arrival of `Wo` gives slot 1 with the block from two places to the right written in it. -/
theorem payload_recv4 (d : Bool) : (ringRd WQ WO).payload (dcell c ⟨14, by decide⟩) 0 d = iprop(∃ fd, slotO1.view.loc (c : Thread nD τ) ↦[slotO1.view.set]{fullShare} slotO1.view.write (Elt F) fd (slotO0.view.read (Elt F) (bufO (WO (nxt (nxt c))))) Finset.univ) := rfl
/-- The third arrival of `Wo` gives slot 2 with the block from three places to the right written in it. -/
theorem payload_recv5 (d : Bool) : (ringRd WQ WO).payload (dcell c ⟨15, by decide⟩) 0 d = iprop(∃ fd, slotO2.view.loc (c : Thread nD τ) ↦[slotO2.view.set]{fullShare} slotO2.view.write (Elt F) fd (slotO1.view.read (Elt F) (bufO (WO (nxt (nxt (nxt c)))))) Finset.univ) := rfl
/-- The credit gives the two halves of the right neighbour's slot 0 of the `Wq` buffer, free to be written again. -/
theorem payload_credit (d : Bool) : (ringRd WQ WO).payload (rcell c ⟨0, by decide⟩) 0 d
    = iprop(((slotQ0.view.loc (nxt c : Thread nD τ)) ↦[slotQ0.view.set]{fullShare.left} (bufQ (WQ c))) ∗ ((slotQ0.view.loc (nxt c : Thread nD τ)) ↦[slotQ0.view.set]{fullShare.right} (bufQ (WQ c)))) := rfl
/-- The exit signals carry nothing. -/
theorem payload_exit (d : Bool) : (ringRd WQ WO).payload (rcell c ⟨1, by decide⟩) 0 d = iprop(emp) := by cases d <;> rfl
/-- One barrier signal gives the left neighbour's three slots of the `Wo` buffer. -/
theorem payload_bar_false : (ringRd WQ WO).payload (rcell c ⟨2, by decide⟩) 0 false
    = iprop(sFree (prv c) slotO0 ∗ sFree (prv c) slotO1 ∗ sFree (prv c) slotO2) := rfl
/-- The other barrier signal gives the right neighbour's two slots of the `Wq` buffer. -/
theorem payload_bar_true : (ringRd WQ WO).payload (rcell c ⟨2, by decide⟩) 0 true
    = iprop(sFree (nxt c) slotQ0 ∗ sFree (nxt c) slotQ1) := rfl

end Schedule

/-! ## What a device owes at launch, and the levels -/

/-- The debts of device `c`, peeled from the right in program order. -/
abbrev O1 (c : Dev nD) : CellTallies nD τ sig Unit := tallyAt (rcell (nxt c) ⟨1, by decide⟩) () 1 + tallyAt (rcell (prv c) ⟨1, by decide⟩) () 1
/-- With the third transfers, -/
abbrev O2 (c : Dev nD) : CellTallies nD τ sig Unit := O1 c + tallyAt (dcell (prv c) ⟨15, by decide⟩) () N + tallyAt (dcell (nxt c) ⟨12, by decide⟩) () N
/-- the credit to the left, -/
abbrev O3 (c : Dev nD) : CellTallies nD τ sig Unit := O2 c + tallyAt (rcell (prv c) ⟨0, by decide⟩) () 1
/-- the second transfers, -/
abbrev O4 (c : Dev nD) : CellTallies nD τ sig Unit := O3 c + tallyAt (dcell (prv c) ⟨14, by decide⟩) () N + tallyAt (dcell (nxt c) ⟨11, by decide⟩) () N
/-- the first transfers, -/
abbrev O5 (c : Dev nD) : CellTallies nD τ sig Unit := O4 c + tallyAt (dcell (prv c) ⟨13, by decide⟩) () N + tallyAt (dcell (nxt c) ⟨10, by decide⟩) () N
/-- and the barrier signals: all a device owes at launch. -/
abbrev O₀ (c : Dev nD) : CellTallies nD τ sig Unit := O5 c + tallyAt (rcell (nxt c) ⟨2, by decide⟩) () 1 + tallyAt (rcell (prv c) ⟨2, by decide⟩) () 1

/-- Every semaphore of a TensorCore has a level, and no other has. -/
def L (g : GSem nD τ sig) : Finset Unit := if g.1.2 = .tc then {()} else ∅

/-- The level of a semaphore: whatever is waited for later stands higher. -/
def lvOf : SemLoc sig → ℕ
  | .reg ⟨2, _⟩ => 1
  | .dma ⟨10, _⟩ => 2
  | .dma ⟨13, _⟩ => 2
  | .reg ⟨0, _⟩ => 3
  | .dma ⟨11, _⟩ => 4
  | .dma ⟨14, _⟩ => 4
  | .dma ⟨12, _⟩ => 5
  | .dma ⟨15, _⟩ => 5
  | .reg ⟨1, _⟩ => 6
  | _ => 0
/-- The level of a cell is its semaphore's. -/
def lv (g : GSem nD τ sig) (_ : Unit) : ℕ := lvOf g.2

/-- A cell of another kind of core has no level. -/
theorem L_of_ne (g : GSem nD τ sig) (h : g.1.2 ≠ .tc) : L g = ∅ := if_neg h
/-- A TensorCore's cell has one level. -/
theorem L_tc (c : Dev nD) (sm : SemLoc sig) : L ((c : Thread nD τ), sm) = {()} := if_pos rfl

/-- Every cell owed in `O` is a TensorCore's and stands above level `k`. -/
def Above (k : ℕ) (O : CellTallies nD τ sig Unit) : Prop := ∀ g u, 0 < O g u → g.1.2 = .tc ∧ k < lv g u

/-- A sum of debts stands above a level when both parts do. -/
theorem Above.add {k : ℕ} {O O' : CellTallies nD τ sig Unit} (h : Above k O) (h' : Above k O') : Above k (O + O') := by
  intro g u hg
  rw [Pi.add_apply, Finsupp.add_apply] at hg
  rcases Nat.pos_of_ne_zero (n := O g u) |> fun f => (Nat.eq_zero_or_pos (O g u)) with h0 | h0
  · exact h' g u (by omega)
  · exact h g u h0

/-- The debt to a single cell stands above every level below the cell's. -/
theorem Above.tally {k n : ℕ} (c : Dev nD) (sm : SemLoc sig) (hk : k < lvOf sm) :
    Above k (tallyAt ((c : Thread nD τ), sm) () n : CellTallies nD τ sig Unit) := by
  intro g u hg
  rw [tallyAt_apply] at hg
  by_cases h : g = ((c : Thread nD τ), sm) ∧ u = ()
  · rw [h.1]; exact ⟨rfl, hk⟩
  · rw [if_neg h] at hg; exact absurd hg (Nat.lt_irrefl 0)

/-- No debt stands above every level. -/
theorem Above.zero {k : ℕ} : Above k 0 := fun g u hg => absurd hg (Nat.lt_irrefl 0)

/-- Debts above a level are above every lower one. -/
theorem Above.mono {k k' : ℕ} {O : CellTallies nD τ sig Unit} (h : Above k O) (hk : k' ≤ k) : Above k' O :=
  fun g u hg => ⟨(h g u hg).1, Nat.lt_of_le_of_lt hk (h g u hg).2⟩

/-- A wait at or below level `k` is allowed while everything owed stands above `k`. -/
theorem mayWait_of {O : CellTallies nD τ sig Unit} (k : ℕ) (c : Dev nD) (sm : SemLoc sig) (hk : lvOf sm ≤ k) (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

/-- The exit signals are above level 5. -/
theorem above1 (c : Dev nD) : Above 5 (O1 c) := (Above.tally _ _ (by decide)).add (Above.tally _ _ (by decide))
/-- With the third transfers, what is owed is above level 4. -/
theorem above2 (c : Dev nD) : Above 4 (O2 c) := (((above1 c).mono (by decide)).add (Above.tally _ _ (by decide))).add (Above.tally _ _ (by decide))
/-- With the credit, what is owed is above level 2. -/
theorem above3 (c : Dev nD) : Above 2 (O3 c) := ((above2 c).mono (by decide)).add (Above.tally _ _ (by decide))
/-- With the second transfers, what is owed is above level 2. -/
theorem above4 (c : Dev nD) : Above 2 (O4 c) := ((above3 c).add (Above.tally _ _ (by decide))).add (Above.tally _ _ (by decide))
/-- With the first transfers, what is owed is above level 1. -/
theorem above5 (c : Dev nD) : Above 1 (O5 c) := (((above4 c).mono (by decide)).add (Above.tally _ _ (by decide))).add (Above.tally _ _ (by decide))
/-- All that is owed at launch is above level 0. -/
theorem above₀ (c : Dev nD) : Above 0 (O₀ c) := (((above5 c).mono (by decide)).add (Above.tally _ _ (by decide))).add (Above.tally _ _ (by decide))

/-! ## The scratch buffers as their slots -/

section Slots

variable (c : Dev nD)

/-- The buffer of the `Wq` blocks is its two slots, -/
theorem splitQ (f : S2x1024x1024.Idx → Elt F .f32) :
    (((c : Thread nD τ).loc cc0_scratch0) ↦{fullShare} f : sProp 𝕄) ⊢ iprop(sPts c slotQ0 fullShare f ∗ sPts c slotQ1 fullShare f) := by
  have hd : Disjoint slotQ0.view.set slotQ1.view.set := Finset.disjoint_left.mpr fun i h h' => by
    have := (mem_slotQ0 i).mp h; have := (mem_slotQ1 i).mp h'; omega
  have hu : (Finset.univ : Finset S2x1024x1024.Idx) = slotQ0.view.set ∪ slotQ1.view.set := by
    symm; rw [Finset.eq_univ_iff_forall]; intro i
    have h : (i 0).val < 2 := (i 0).isLt
    rw [Finset.mem_union, mem_slotQ0, mem_slotQ1]; omega
  exact (Entails.of_eq (congrArg (fun S => (((c : Thread nD τ).loc cc0_scratch0) ↦[S]{fullShare} f : sProp 𝕄)) hu)).trans (pointsTo_union hd).1

/-- and back, at whatever the two hold. -/
theorem joinQ (f g : S2x1024x1024.Idx → Elt F .f32) :
    iprop(sPts c slotQ0 fullShare f ∗ sPts c slotQ1 fullShare g) ⊢ (iprop(∃ h : S2x1024x1024.Idx → Elt F .f32, ((c : Thread nD τ).loc cc0_scratch0) ↦{fullShare} h) : sProp 𝕄) := by
  have hd : Disjoint slotQ0.view.set slotQ1.view.set := Finset.disjoint_left.mpr fun i h h' => by
    have := (mem_slotQ0 i).mp h; have := (mem_slotQ1 i).mp h'; omega
  have hu : slotQ0.view.set ∪ slotQ1.view.set = (Finset.univ : Finset S2x1024x1024.Idx) := by
    rw [Finset.eq_univ_iff_forall]; intro i
    have h : (i 0).val < 2 := (i 0).isLt
    rw [Finset.mem_union, mem_slotQ0, mem_slotQ1]; omega
  iintro H
  iexists (slotQ1.view.set.piecewise g f)
  iapply ((pointsTo_join hd).trans (Entails.of_eq (congrArg (fun S => (((c : Thread nD τ).loc cc0_scratch0) ↦[S]{fullShare} (slotQ1.view.set.piecewise g f) : sProp 𝕄)) hu)))
  iexact H

/-- The buffer of the `Wo` blocks is its three slots, -/
theorem splitO (f : S3x1024x1024.Idx → Elt F .f32) :
    (((c : Thread nD τ).loc cc0_scratch1) ↦{fullShare} f : sProp 𝕄)
      ⊢ iprop(sPts c slotO0 fullShare f ∗ sPts c slotO1 fullShare f ∗ sPts c slotO2 fullShare f) := by
  have hd : Disjoint slotO1.view.set slotO2.view.set := Finset.disjoint_left.mpr fun i h h' => by
    have := (mem_slotO1 i).mp h; have := (mem_slotO2 i).mp h'; omega
  have hd' : Disjoint slotO0.view.set (slotO1.view.set ∪ slotO2.view.set) := Finset.disjoint_left.mpr fun i h h' => by
    have := (mem_slotO0 i).mp h; rw [Finset.mem_union, mem_slotO1, mem_slotO2] at h'; omega
  have hu : (Finset.univ : Finset S3x1024x1024.Idx) = slotO0.view.set ∪ (slotO1.view.set ∪ slotO2.view.set) := by
    symm; rw [Finset.eq_univ_iff_forall]; intro i
    have h : (i 0).val < 3 := (i 0).isLt
    rw [Finset.mem_union, Finset.mem_union, mem_slotO0, mem_slotO1, mem_slotO2]; omega
  exact ((Entails.of_eq (congrArg (fun S => (((c : Thread nD τ).loc cc0_scratch1) ↦[S]{fullShare} f : sProp 𝕄)) hu)).trans (pointsTo_union hd').1).trans
    (sep_mono_right (pointsTo_union hd).1)

/-- and back, at whatever the three hold. -/
theorem joinO (f g h : S3x1024x1024.Idx → Elt F .f32) :
    iprop(sPts c slotO0 fullShare f ∗ sPts c slotO1 fullShare g ∗ sPts c slotO2 fullShare h)
      ⊢ (iprop(∃ k : S3x1024x1024.Idx → Elt F .f32, ((c : Thread nD τ).loc cc0_scratch1) ↦{fullShare} k) : sProp 𝕄) := by
  have hd : Disjoint slotO1.view.set slotO2.view.set := Finset.disjoint_left.mpr fun i h h' => by
    have := (mem_slotO1 i).mp h; have := (mem_slotO2 i).mp h'; omega
  have hd' : Disjoint slotO0.view.set (slotO1.view.set ∪ slotO2.view.set) := Finset.disjoint_left.mpr fun i h h' => by
    have := (mem_slotO0 i).mp h; rw [Finset.mem_union, mem_slotO1, mem_slotO2] at h'; omega
  have hu : slotO0.view.set ∪ (slotO1.view.set ∪ slotO2.view.set) = (Finset.univ : Finset S3x1024x1024.Idx) := by
    rw [Finset.eq_univ_iff_forall]; intro i
    have h : (i 0).val < 3 := (i 0).isLt
    rw [Finset.mem_union, Finset.mem_union, mem_slotO0, mem_slotO1, mem_slotO2]; omega
  iintro H
  iexists ((slotO1.view.set ∪ slotO2.view.set).piecewise (slotO2.view.set.piecewise h g) f)
  iapply (((sep_mono_right (pointsTo_join hd)).trans (pointsTo_join hd')).trans
    (Entails.of_eq (congrArg (fun S => (((c : Thread nD τ).loc cc0_scratch1) ↦[S]{fullShare} ((slotO1.view.set ∪ slotO2.view.set).piecewise (slotO2.view.set.piecewise h g) f) : sProp 𝕄)) hu)))
  iexact H

/-- A held slot lent in halves, and the halves joined. -/
theorem halves (M : Memref sig .tc .vmem S1024x1024 .f32) (f : Buf (Elt F) (M.view.loc (c : Thread nD τ))) :
    sPts c M fullShare f ⊢ (iprop(sPts c M fullShare.left f ∗ sPts c M fullShare.right f) : sProp 𝕄) :=
  (pointsTo_share (PosShare.mem_left_op_right fullShare)).1

/-- Two halves of a slot at the same contents are the whole of it. -/
theorem whole_of_halves (M : Memref sig .tc .vmem S1024x1024 .f32) (f : Buf (Elt F) (M.view.loc (c : Thread nD τ))) :
    iprop(sPts c M fullShare.left f ∗ sPts c M fullShare.right f) ⊢ (sPts c M fullShare f : sProp 𝕄) :=
  (pointsTo_share (PosShare.mem_left_op_right fullShare)).2

end Slots

end Cert.RingAttn
-- ==== Proof.Body.lean ====
/-
# `Body`: one device's run of the kernel

The body of the kernel is run once, at a symbolic device `c`, from the memory, the tokens and the credits that the
launch deals to that device.
-/
module

public import proofs.«01_k».proof.Proof.Schedule

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

/-- The program declares no loop variants. -/
def 𝒱₀ : Variants := Variants.none

variable (WQ WO : Dev nD → S1024x1024.Idx → Elt F .f32)

/-- A whole buffer of device `c`, with share `q`. -/
abbrev wPts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[Finset.univ]{q} f

/-- A cell's invariant, and that its round 0 has come. -/
abbrev known (κ : Dev nD × Fin 15 → ℕ) (c : Dev nD) (k : Fin 15) (s : SemLoc sig) : sProp 𝕄 :=
  iprop(cellInv ER (ringRd WQ WO) (κ (c, k)) ((c : Thread nD τ), s) ∗ reached ER ((c : Thread nD τ), s) 0)

/-- What device `c` knows of its own cells, -/
def knownOwn (κ : Dev nD × Fin 15 → ℕ) (c : Dev nD) : sProp 𝕄 :=
  iprop(known WQ WO κ c 0 (.dma ⟨4, by decide⟩) ∗ known WQ WO κ c 1 (.dma ⟨5, by decide⟩) ∗ known WQ WO κ c 2 (.dma ⟨6, by decide⟩)
    ∗ known WQ WO κ c 3 (.dma ⟨7, by decide⟩) ∗ known WQ WO κ c 4 (.dma ⟨8, by decide⟩) ∗ known WQ WO κ c 5 (.dma ⟨9, by decide⟩)
    ∗ known WQ WO κ c 6 (.dma ⟨10, by decide⟩) ∗ known WQ WO κ c 7 (.dma ⟨11, by decide⟩) ∗ known WQ WO κ c 8 (.dma ⟨12, by decide⟩)
    ∗ known WQ WO κ c 9 (.dma ⟨13, by decide⟩) ∗ known WQ WO κ c 10 (.dma ⟨14, by decide⟩) ∗ known WQ WO κ c 11 (.dma ⟨15, by decide⟩)
    ∗ known WQ WO κ c 12 (.reg ⟨0, by decide⟩) ∗ known WQ WO κ c 13 (.reg ⟨1, by decide⟩) ∗ known WQ WO κ c 14 (.reg ⟨2, by decide⟩))

/-- and of its neighbours' that it signals or sends to. -/
def knownNear (κ : Dev nD × Fin 15 → ℕ) (c : Dev nD) : sProp 𝕄 :=
  iprop(known WQ WO κ (nxt c) 6 (.dma ⟨10, by decide⟩) ∗ known WQ WO κ (nxt c) 7 (.dma ⟨11, by decide⟩) ∗ known WQ WO κ (nxt c) 8 (.dma ⟨12, by decide⟩)
    ∗ known WQ WO κ (prv c) 9 (.dma ⟨13, by decide⟩) ∗ known WQ WO κ (prv c) 10 (.dma ⟨14, by decide⟩) ∗ known WQ WO κ (prv c) 11 (.dma ⟨15, by decide⟩)
    ∗ known WQ WO κ (prv c) 12 (.reg ⟨0, by decide⟩)
    ∗ known WQ WO κ (prv c) 13 (.reg ⟨1, by decide⟩) ∗ known WQ WO κ (nxt c) 13 (.reg ⟨1, by decide⟩)
    ∗ known WQ WO κ (prv c) 14 (.reg ⟨2, by decide⟩) ∗ known WQ WO κ (nxt c) 14 (.reg ⟨2, by decide⟩))

/-- The duties device `c` pays: its departures, its neighbours' arrivals, the credit to the left, the exit and barrier
    signals. -/
def tokens (c : Dev nD) : sProp 𝕄 :=
  iprop(dutyTok ER (dcell c ⟨4, by decide⟩) 0 false ∗ dutyTok ER (dcell c ⟨5, by decide⟩) 0 false ∗ dutyTok ER (dcell c ⟨6, by decide⟩) 0 false
    ∗ dutyTok ER (dcell c ⟨7, by decide⟩) 0 false ∗ dutyTok ER (dcell c ⟨8, by decide⟩) 0 false ∗ dutyTok ER (dcell c ⟨9, by decide⟩) 0 false
    ∗ dutyTok ER (dcell (nxt c) ⟨10, by decide⟩) 0 false ∗ dutyTok ER (dcell (nxt c) ⟨11, by decide⟩) 0 false ∗ dutyTok ER (dcell (nxt c) ⟨12, by decide⟩) 0 false
    ∗ dutyTok ER (dcell (prv c) ⟨13, by decide⟩) 0 false ∗ dutyTok ER (dcell (prv c) ⟨14, by decide⟩) 0 false ∗ dutyTok ER (dcell (prv c) ⟨15, by decide⟩) 0 false
    ∗ dutyTok ER (rcell (prv c) ⟨0, by decide⟩) 0 false
    ∗ dutyTok ER (rcell (prv c) ⟨1, by decide⟩) 0 true ∗ dutyTok ER (rcell (nxt c) ⟨1, by decide⟩) 0 false
    ∗ dutyTok ER (rcell (prv c) ⟨2, by decide⟩) 0 true ∗ dutyTok ER (rcell (nxt c) ⟨2, by decide⟩) 0 false)

/-- The positions of device `c`'s cells, all at round `r`. -/
def positions (c : Dev nD) (r : ℕ) : sProp 𝕄 :=
  iprop(atPos ER (dcell c ⟨4, by decide⟩) r ∅ 0 ∗ atPos ER (dcell c ⟨5, by decide⟩) r ∅ 0 ∗ atPos ER (dcell c ⟨6, by decide⟩) r ∅ 0
    ∗ atPos ER (dcell c ⟨7, by decide⟩) r ∅ 0 ∗ atPos ER (dcell c ⟨8, by decide⟩) r ∅ 0 ∗ atPos ER (dcell c ⟨9, by decide⟩) r ∅ 0
    ∗ atPos ER (dcell c ⟨10, by decide⟩) r ∅ 0 ∗ atPos ER (dcell c ⟨11, by decide⟩) r ∅ 0 ∗ atPos ER (dcell c ⟨12, by decide⟩) r ∅ 0
    ∗ atPos ER (dcell c ⟨13, by decide⟩) r ∅ 0 ∗ atPos ER (dcell c ⟨14, by decide⟩) r ∅ 0 ∗ atPos ER (dcell c ⟨15, by decide⟩) r ∅ 0
    ∗ atPos ER (rcell c ⟨0, by decide⟩) r ∅ 0 ∗ atPos ER (rcell c ⟨1, by decide⟩) r ∅ 0 ∗ atPos ER (rcell c ⟨2, by decide⟩) r ∅ 0)

/-- The launch's credits for what device `c` waits for and others pay. -/
def credits (c : Dev nD) : sProp 𝕄 :=
  iprop(cred (tallyAt (dcell c ⟨10, by decide⟩) () N) ∗ cred (tallyAt (dcell c ⟨11, by decide⟩) () N) ∗ cred (tallyAt (dcell c ⟨12, by decide⟩) () N)
    ∗ cred (tallyAt (dcell c ⟨13, by decide⟩) () N) ∗ cred (tallyAt (dcell c ⟨14, by decide⟩) () N) ∗ cred (tallyAt (dcell c ⟨15, by decide⟩) () N)
    ∗ cred (tallyAt (rcell c ⟨0, by decide⟩) () 1) ∗ cred (tallyAt (rcell c ⟨1, by decide⟩) () 2) ∗ cred (tallyAt (rcell c ⟨2, by decide⟩) () 2))

/-- The three scratch buffers no copy of another device touches. -/
def scratch (c : Dev nD) : sProp 𝕄 :=
  iprop((∃ f, wPts c (Memref.whole cc0_scratch2) fullShare f) ∗ (∃ f, wPts c (Memref.whole cc0_scratch3) fullShare f)
    ∗ ∃ f, wPts c (Memref.whole cc0_scratch4) fullShare f)

variable (X : Dev nD → S1x1024x1024.Idx → Elt F .f32) (KE VE : Dev nD → S4x1024x32x128.Idx → Elt F .f32)

/-- The arguments of device `c`: its staged blocks of `x`, `Wq` and `Wo`, and the whole of `K_ext` and `V_ext`. -/
def inputs (c : Dev nD) : sProp 𝕄 :=
  iprop(wPts c (Memref.whole cc0_stg0_0) fullShare (X c) ∗ wPts c (Memref.whole cc0_stg1_0) fullShare (WQ c) ∗ wPts c (Memref.whole cc0_stg2_0) fullShare (WO c)
    ∗ wPts c (Memref.whole main_arg2) fullShare (KE c) ∗ wPts c (Memref.whole main_arg3) fullShare (VE c))

/-- The kernel's body at a device, with the buffers that the launch gives it. -/
abbrev theBody : Prog (TpuEff nD τ sig (Elt F) Λ₀ .tc) PUnit :=
  cc0__body (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _)
    cc0_scratch5 cc0_scratch6 cc0_scratch7 cc0_scratch8 cc0_scratch9

/-- Device `c` runs the body to any continuation `K` that takes its memory back, its result buffer at contents of which
    `Φ` holds, its cells one round on and nothing owed. -/
def Runs (Φ : Dev nD → (S1x1024x1024.Idx → Elt F .f32) → Prop) (c : Dev nD) : Prop :=
  ∀ (κ : Dev nD × Fin 15 → ℕ) (W : Waits sig Unit) (K : PUnit → sProp 𝕄),
    iprop(knownOwn WQ WO κ c ∗ knownNear WQ WO κ c ∗ levAts L lv
        ∗ tokens c ∗ positions c 0 ∗ credits c
        ∗ inputs WQ WO X KE VE c ∗ (∃ f, wPts c (Memref.whole cc0_stg3_0) fullShare f)
        ∗ (∃ f, ((c : Thread nD τ).loc cc0_scratch0) ↦{fullShare} f) ∗ (∃ f, ((c : Thread nD τ).loc cc0_scratch1) ↦{fullShare} f)
        ∗ scratch c
        ∗ semVal (dcell c ⟨16, by decide⟩) 0 ∗ semVal (dcell c ⟨17, by decide⟩) 0
        ∗ owes (c : Thread nD τ) (O₀ c) W
        ∗ (iprop(inputs WQ WO X KE VE c ∗ (∃ f, iprop(⌜Φ c f⌝ ∗ wPts c (Memref.whole cc0_stg3_0) fullShare f))
            ∗ (∃ f, ((c : Thread nD τ).loc cc0_scratch0) ↦{fullShare} f) ∗ (∃ f, ((c : Thread nD τ).loc cc0_scratch1) ↦{fullShare} f)
            ∗ scratch c ∗ positions c 1
            ∗ semVal (dcell c ⟨16, by decide⟩) 0 ∗ semVal (dcell c ⟨17, by decide⟩) 0
            ∗ ∃ W, owes (c : Thread nD τ) 0 W) -∗ K ⟨⟩))
      ⊢ wp frame (wpE (defs₀ (F := F)) 𝒱₀ (c : Thread nD τ) none) Set.univ theBody K

/-! ## The slots at the barrier -/

/-- Before the barrier both slots of the first buffer are free, -/
theorem freeQ (c : Dev nD) (f : S2x1024x1024.Idx → Elt F .f32) :
    (((c : Thread nD τ).loc cc0_scratch0) ↦{fullShare} f : sProp 𝕄) ⊢ iprop(sFree c slotQ0 ∗ sFree c slotQ1) :=
  (splitQ c f).trans (sep_mono (exists_intro _) (exists_intro _))

/-- and the three of the second. -/
theorem freeO (c : Dev nD) (f : S3x1024x1024.Idx → Elt F .f32) :
    (((c : Thread nD τ).loc cc0_scratch1) ↦{fullShare} f : sProp 𝕄) ⊢ iprop(sFree c slotO0 ∗ sFree c slotO1 ∗ sFree c slotO2) :=
  (splitO c f).trans (sep_mono (exists_intro _) (sep_mono (exists_intro _) (exists_intro _)))

/-- What the barrier's wait hands over: the slots on the neighbours that device `c` writes. -/
theorem barPay (c : Dev nD) : (BI.sep iprop(sFree (prv c) slotO0 ∗ sFree (prv c) slotO1 ∗ sFree (prv c) slotO2) iprop(sFree (nxt c) slotQ0 ∗ sFree (nxt c) slotQ1) : sProp 𝕄)
    ⊢ iprop((sFree (prv c) slotO0 ∗ sFree (prv c) slotO1 ∗ sFree (prv c) slotO2) ∗ sFree (nxt c) slotQ0 ∗ sFree (nxt c) slotQ1) := Entails.rfl

/-- What a slot holds after an arrival, in two halves. -/
theorem landedHalves (c : Dev nD) (M : Memref sig .tc .vmem S1024x1024 .f32) (fd g : Buf (Elt F) (M.view.loc (c : Thread nD τ)))
    (Y : S1024x1024.Idx → Elt F .f32) (h : M.view.read (Elt F) g = Y) :
    (M.view.loc (c : Thread nD τ) ↦[M.view.set]{fullShare} M.view.write (Elt F) fd Y Finset.univ : sProp 𝕄)
      ⊢ iprop((M.view.loc (c : Thread nD τ) ↦[M.view.set]{fullShare.left} g) ∗ (M.view.loc (c : Thread nD τ) ↦[M.view.set]{fullShare.right} g)) := by
  rw [landed_eq (c : Thread nD τ) M.view fullShare fd g Y h]
  exact halves c M g

/-! ## The run -/

attribute [local sl_rounds] duties_dma duties_credit duties_exit duties_bar amount_dma amount_reg
  expect_dma expect_credit expect_exit expect_bar
  payload_send0 payload_send1 payload_send2 payload_send3 payload_send4 payload_send5
  payload_recv0 payload_recv1 payload_recv2 payload_recv3 payload_recv4 payload_recv5
  payload_credit payload_exit payload_bar_false payload_bar_true nxt_prv prv_nxt

/-- The barrier. -/
def s₁ [∀ e, Nonempty (Elt F e)] (Φ : Dev nD → (S1x1024x1024.Idx → Elt F .f32) → Prop) (c : Dev nD) : Σ' (G : Prop), G → Runs WQ WO X KE VE Φ c := by
  sl_stretch
  intro κ W K
  unfold knownOwn knownNear tokens positions credits inputs scratch
  iintro ⟨⟨⟨#Is0, #Rs0⟩, ⟨#Is1, #Rs1⟩, ⟨#Is2, #Rs2⟩, ⟨#Is3, #Rs3⟩, ⟨#Is4, #Rs4⟩, ⟨#Is5, #Rs5⟩, ⟨#Ir0, #Rr0⟩, ⟨#Ir1, #Rr1⟩, ⟨#Ir2, #Rr2⟩, ⟨#Ir3, #Rr3⟩, ⟨#Ir4, #Rr4⟩, ⟨#Ir5, #Rr5⟩, ⟨#Icr, #Rcr⟩, ⟨#Iex, #Rex⟩, ⟨#Iba, #Rba⟩⟩,
    ⟨⟨#In0, #Rn0⟩, ⟨#In1, #Rn1⟩, ⟨#In2, #Rn2⟩, ⟨#Ip3, #Rp3⟩, ⟨#Ip4, #Rp4⟩, ⟨#Ip5, #Rp5⟩, ⟨#Ipc, #Rpc⟩, ⟨#Ipe, #Rpe⟩, ⟨#Ine, #Rne⟩, ⟨#Ipb, #Rpb⟩, ⟨#Inb, #Rnb⟩⟩, #HL,
    ⟨Ts0, Ts1, Ts2, Ts3, Ts4, Ts5, Tr0, Tr1, Tr2, Tr3, Tr4, Tr5, Tc, Tep, Ten, Tbp, Tbn⟩,
    ⟨Ps0, Ps1, Ps2, Ps3, Ps4, Ps5, Pr0, Pr1, Pr2, Pr3, Pr4, Pr5, Pc, Pe, Pb⟩,
    ⟨Cr0, Cr1, Cr2, Cr3, Cr4, Cr5, Cc, Ce, Cb⟩,
    ⟨HX, HQ, HO, HK, HV⟩, ⟨%out0, Hout⟩, ⟨%q0, Hq⟩, ⟨%o0, Ho⟩, ⟨⟨%kb0, Hkb⟩, ⟨%vb0, Hvb⟩, ⟨%st0, Hst⟩⟩,
    Hs16, Hs17, Howes, HK'⟩
  ihave Hq := (freeQ (F := F) c q0) $$ Hq
  icases Hq with ⟨Hq0, Hq1⟩
  ihave Ho := (freeO (F := F) c o0) $$ Ho
  icases Ho with ⟨Ho0, Ho1, Ho2⟩
  ihave HQ := (pointsTo_share (PosShare.mem_left_op_right fullShare)).1 $$ HQ
  icases HQ with ⟨HQl, HQr⟩
  ihave HO := (pointsTo_share (PosShare.mem_left_op_right fullShare)).1 $$ HO
  icases HO with ⟨HOl, HOr⟩
  have e1 := dev1_eq c
  have e2 := dev2_eq c
  have hwb : (levAts L lv : sProp 𝕄) ⊢ MayWait (c : Thread nD τ) (.reg ⟨2, by decide⟩) () (O5 c) := mayWait_of 1 c _ (by decide) (above5 c)
  delta O₀ O5 O4 O3 O2 O1
  delta O5 O4 O3 O2 O1 at hwb
  unfold theBody
  unfold cc0__body
  set_option sl_exec.stopBefore "k0_part2" in sl_exec_parts
  sl_seam

/-- The first fetch of keys and values, the first two transfers to the neighbours, the attention of the device's own
    heads. -/
def s₂ [∀ e, Nonempty (Elt F e)] (Φ : Dev nD → (S1x1024x1024.Idx → Elt F .f32) → Prop) (c : Dev nD) : Σ' (G : Prop), G → (s₁ WQ WO X KE VE Φ c).1 := by
  sl_stretch
  sl_resume
  ihave Pb_pay1 := (barPay (F := F) c) $$ Pb_pay1
  icases Pb_pay1 with ⟨⟨⟨%fo0, Dp0⟩, ⟨%fo1, Dp1⟩, ⟨%fo2, Dp2⟩⟩, ⟨%fq0, Dn0⟩, ⟨%fq1, Dn1⟩⟩
  have b16 : Transfers.BatchOf (c : Thread nD τ) (SemLoc.dma (sig := sig) ⟨16, by decide⟩) 8 (windows := true) := trivial
  have b17 : Transfers.BatchOf (c : Thread nD τ) (SemLoc.dma (sig := sig) ⟨17, by decide⟩) 8 (windows := true) := trivial
  have e3 := dev3_eq c
  have e4 := dev4_eq c
  have hw16 : (levAts L lv : sProp 𝕄) ⊢ MayWait (c : Thread nD τ) (.dma ⟨16, by decide⟩) () (O4 c) := mayWait_of 2 c _ (by decide) (above4 c)
  have hw17 : (levAts L lv : sProp 𝕄) ⊢ MayWait (c : Thread nD τ) (.dma ⟨17, by decide⟩) () (O4 c) := mayWait_of 2 c _ (by decide) (above4 c)
  delta O4 O3 O2 O1 at hw16 hw17
  set_option sl_exec.stopBefore "k0_part27" in sl_exec_parts
  sl_seam

end Cert.RingAttn
-- ==== Proof.Rest.lean ====
/-
# `Rest`: the rest of one device's run

From the first arrival to the exit.
-/
module

public import proofs.«01_k».proof.Proof.Body

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (WQ WO : Dev nD → S1024x1024.Idx → Elt F .f32)
variable (X : Dev nD → S1x1024x1024.Idx → Elt F .f32) (KE VE : Dev nD → S4x1024x32x128.Idx → Elt F .f32)

attribute [local sl_rounds] duties_dma duties_credit duties_exit duties_bar amount_dma amount_reg
  expect_dma expect_credit expect_exit expect_bar
  payload_send0 payload_send1 payload_send2 payload_send3 payload_send4 payload_send5
  payload_recv0 payload_recv1 payload_recv2 payload_recv3 payload_recv4 payload_recv5
  payload_credit payload_exit payload_bar_false payload_bar_true nxt_prv prv_nxt

/-- The left neighbour's right neighbour is the device itself: a slot of it under either name. -/
theorem slotBack {c d : Dev nD} (h : d = c) (q : PosShare TreeShare) (f : S2x1024x1024.Idx → Elt F .f32) :
    ((slotQ0.view.loc (c : Thread nD τ)) ↦[slotQ0.view.set]{q} f : sProp 𝕄) ⊢ ((slotQ0.view.loc (d : Thread nD τ)) ↦[slotQ0.view.set]{q} f) := by
  subst h; exact Entails.rfl

/-- The arrival of the left neighbour's block of `Wq` and the right neighbour's block of `Wo`. -/
def s₃ [∀ e, Nonempty (Elt F e)] (Φ : Dev nD → (S1x1024x1024.Idx → Elt F .f32) → Prop) (c : Dev nD) : Σ' (G : Prop), G → (s₂ WQ WO X KE VE Φ c).1 := by
  sl_stretch
  sl_resume
  have e5 := dev5_eq c
  have e6 := dev6_eq c
  have hwr0 : (levAts L lv : sProp 𝕄) ⊢ MayWait (c : Thread nD τ) (.dma ⟨10, by decide⟩) () (O4 c) := mayWait_of 2 c _ (by decide) (above4 c)
  have hwr3 : (levAts L lv : sProp 𝕄) ⊢ MayWait (c : Thread nD τ) (.dma ⟨13, by decide⟩) () (O4 c) := mayWait_of 2 c _ (by decide) (above4 c)
  delta O4 O3 O2 O1 at hwr0 hwr3
  set_option sl_exec.stopBefore "k0_part29" in sl_exec_parts
  sl_seam

/-- The blocks that arrived are sent on, and meanwhile attended with: the second fetch, the heads kept for the end. -/
def s₄ [∀ e, Nonempty (Elt F e)] (Φ : Dev nD → (S1x1024x1024.Idx → Elt F .f32) → Prop) (c : Dev nD) : Σ' (G : Prop), G → (s₃ WQ WO X KE VE Φ c).1 := by
  sl_stretch
  sl_resume
  ihave Pr0_pay1 := (landedHalves (F := F) c slotQ0 _ (bufQ (WQ (prv c))) (wqM.view.read (Elt F) (WQ (prv c))) (read_slotQ0 (WQ (prv c)))) $$ Pr0_pay1
  icases Pr0_pay1 with ⟨Q0l, Q0r⟩
  ihave Pr3_pay1 := (landedHalves (F := F) c slotO0 _ (bufO (WO (nxt c))) (woM.view.read (Elt F) (WO (nxt c))) (read_slotO0 (WO (nxt c)))) $$ Pr3_pay1
  icases Pr3_pay1 with ⟨O0l, O0r⟩
  have e5 := dev5_eq c
  have e6 := dev6_eq c
  have b16 : Transfers.BatchOf (c : Thread nD τ) (SemLoc.dma (sig := sig) ⟨16, by decide⟩) 8 (windows := true) := trivial
  have b17 : Transfers.BatchOf (c : Thread nD τ) (SemLoc.dma (sig := sig) ⟨17, by decide⟩) 8 (windows := true) := trivial
  have hw16 : (levAts L lv : sProp 𝕄) ⊢ MayWait (c : Thread nD τ) (.dma ⟨16, by decide⟩) () (O3 c) := mayWait_of 2 c _ (by decide) (above3 c)
  have hw17 : (levAts L lv : sProp 𝕄) ⊢ MayWait (c : Thread nD τ) (.dma ⟨17, by decide⟩) () (O3 c) := mayWait_of 2 c _ (by decide) (above3 c)
  have hws1 : (levAts L lv : sProp 𝕄) ⊢ MayWait (c : Thread nD τ) (.dma ⟨5, by decide⟩) () (O3 c) := mayWait_of 2 c _ (by decide) (above3 c)
  delta O3 O2 O1 at hw16 hw17 hws1
  set_option sl_exec.stopBefore "k0_part53" in sl_exec_parts
  sl_seam

/-- The slot the left neighbour may overwrite is handed back, the second arrivals are awaited. -/
def s₅ [∀ e, Nonempty (Elt F e)] (Φ : Dev nD → (S1x1024x1024.Idx → Elt F .f32) → Prop) (c : Dev nD) : Σ' (G : Prop), G → (s₄ WQ WO X KE VE Φ c).1 := by
  sl_stretch
  sl_resume
  ihave Ps1_pay1 := (slotBack (F := F) (nxt_prv c) fullShare.left (bufQ (WQ (prv c)))) $$ Ps1_pay1
  ihave Q0r := (slotBack (F := F) (nxt_prv c) fullShare.right (bufQ (WQ (prv c)))) $$ Q0r
  have e7 := dev7_eq c
  have hwr1 : (levAts L lv : sProp 𝕄) ⊢ MayWait (c : Thread nD τ) (.dma ⟨11, by decide⟩) () (O2 c) := mayWait_of 4 c _ (by decide) (above2 c)
  have hwr4 : (levAts L lv : sProp 𝕄) ⊢ MayWait (c : Thread nD τ) (.dma ⟨14, by decide⟩) () (O2 c) := mayWait_of 4 c _ (by decide) (above2 c)
  have hwc : (levAts L lv : sProp 𝕄) ⊢ MayWait (c : Thread nD τ) (.reg ⟨0, by decide⟩) () (O2 c) := mayWait_of 4 c _ (by decide) (above2 c)
  delta O2 O1 at hwr1 hwr4 hwc
  set_option sl_exec.stopBefore "k0_part54" in sl_exec_parts
  sl_seam

/-- The slot lent in halves is whole again. -/
theorem rejoin (c : Dev nD) (f : S2x1024x1024.Idx → Elt F .f32) :
    iprop((slotQ0.view.loc (c : Thread nD τ) ↦[slotQ0.view.set]{fullShare.left} f) ∗ (slotQ0.view.loc (c : Thread nD τ) ↦[slotQ0.view.set]{fullShare.right} f))
      ⊢ (slotQ0.view.loc (c : Thread nD τ) ↦[slotQ0.view.set]{fullShare} f : sProp 𝕄) :=
  whole_of_halves c slotQ0 f

/-- The second arrivals are sent on, and meanwhile attended with; the third arrivals are awaited. -/
def s₆ [∀ e, Nonempty (Elt F e)] (Φ : Dev nD → (S1x1024x1024.Idx → Elt F .f32) → Prop) (c : Dev nD) : Σ' (G : Prop), G → (s₅ WQ WO X KE VE Φ c).1 := by
  sl_stretch
  sl_resume
  ihave Dn0 := (rejoin (F := F) (nxt c) (bufQ (WQ c))) $$ [Pc_pay1 Pc_pay2]
  · isplitl [Pc_pay1]
    · iexact Pc_pay1
    · iexact Pc_pay2
  ihave Pr1_pay1 := (landedHalves (F := F) c slotQ1 _ (bufQ (WQ (prv (prv c)))) (slotQ0.view.read (Elt F) (bufQ (WQ (prv (prv c)))))
    ((read_slotQ1 _).trans (read_slotQ0 _).symm)) $$ Pr1_pay1
  icases Pr1_pay1 with ⟨Q1l, Q1r⟩
  ihave Pr4_pay1 := (landedHalves (F := F) c slotO1 _ (bufO (WO (nxt (nxt c)))) (slotO0.view.read (Elt F) (bufO (WO (nxt (nxt c)))))
    ((read_slotO1 _).trans (read_slotO0 _).symm)) $$ Pr4_pay1
  icases Pr4_pay1 with ⟨O1l, O1r⟩
  have e8 := dev8_eq c
  have e9 := dev9_eq c
  have b16 : Transfers.BatchOf (c : Thread nD τ) (SemLoc.dma (sig := sig) ⟨16, by decide⟩) 8 (windows := true) := trivial
  have b17 : Transfers.BatchOf (c : Thread nD τ) (SemLoc.dma (sig := sig) ⟨17, by decide⟩) 8 (windows := true) := trivial
  have hw16 : (levAts L lv : sProp 𝕄) ⊢ MayWait (c : Thread nD τ) (.dma ⟨16, by decide⟩) () (O1 c) := mayWait_of 5 c _ (by decide) (above1 c)
  have hw17 : (levAts L lv : sProp 𝕄) ⊢ MayWait (c : Thread nD τ) (.dma ⟨17, by decide⟩) () (O1 c) := mayWait_of 5 c _ (by decide) (above1 c)
  have hwr2 : (levAts L lv : sProp 𝕄) ⊢ MayWait (c : Thread nD τ) (.dma ⟨12, by decide⟩) () (O1 c) := mayWait_of 5 c _ (by decide) (above1 c)
  have hwr5 : (levAts L lv : sProp 𝕄) ⊢ MayWait (c : Thread nD τ) (.dma ⟨15, by decide⟩) () (O1 c) := mayWait_of 5 c _ (by decide) (above1 c)
  delta O1 at hw16 hw17 hwr2 hwr5
  set_option sl_exec.stopBefore "k0_part81" in sl_exec_parts
  sl_seam

/-- What a slot holds after an arrival. -/
theorem landed (c : Dev nD) (M : Memref sig .tc .vmem S1024x1024 .f32) (fd g : Buf (Elt F) (M.view.loc (c : Thread nD τ)))
    (Y : S1024x1024.Idx → Elt F .f32) (h : M.view.read (Elt F) g = Y) :
    (M.view.loc (c : Thread nD τ) ↦[M.view.set]{fullShare} M.view.write (Elt F) fd Y Finset.univ : sProp 𝕄)
      ⊢ (M.view.loc (c : Thread nD τ) ↦[M.view.set]{fullShare} g) := by
  rw [landed_eq (c : Thread nD τ) M.view fullShare fd g Y h]

/-- The last heads, the heads that were kept. -/
def s₇ [∀ e, Nonempty (Elt F e)] (Φ : Dev nD → (S1x1024x1024.Idx → Elt F .f32) → Prop) (c : Dev nD) : Σ' (G : Prop), G → (s₆ WQ WO X KE VE Φ c).1 := by
  sl_stretch
  sl_resume
  icases Pr2_pay1 with ⟨%fq2, Pr2_pay1⟩
  icases Pr5_pay1 with ⟨%fo5, Pr5_pay1⟩
  ihave Q2 := (landed (F := F) c slotQ0 _ (bufQ (WQ (prv (prv (prv c))))) (slotQ1.view.read (Elt F) (bufQ (WQ (prv (prv (prv c))))))
    ((read_slotQ0 _).trans (read_slotQ1 _).symm)) $$ Pr2_pay1
  ihave O2h := (landed (F := F) c slotO2 _ (bufO (WO (nxt (nxt (nxt c))))) (slotO1.view.read (Elt F) (bufO (WO (nxt (nxt (nxt c))))))
    ((read_slotO2 _).trans (read_slotO1 _).symm)) $$ Pr5_pay1
  have b16 : Transfers.BatchOf (c : Thread nD τ) (SemLoc.dma (sig := sig) ⟨16, by decide⟩) 8 (windows := true) := trivial
  have b17 : Transfers.BatchOf (c : Thread nD τ) (SemLoc.dma (sig := sig) ⟨17, by decide⟩) 8 (windows := true) := trivial
  have hw (s : DmaSem sig) (hs : lvOf (.dma s) ≤ 5) : (levAts L lv : sProp 𝕄) ⊢ MayWait (c : Thread nD τ) (.dma s) () (O1 c) := mayWait_of 5 c _ hs (above1 c)
  delta O1 at hw
  have hw16 := hw ⟨16, by decide⟩ (by decide)
  have hw17 := hw ⟨17, by decide⟩ (by decide)
  clear hw
  sl_exec_parts
  sl_seam

/-- The result buffer when the last block of rows is stored: the stores of the run over what the buffer held. -/
def lastOut [∀ e, Nonempty (Elt F e)] (c : Dev nD) (kb0 vb0 : S8x1024x128.Idx → Elt F .f32) (out0 : S1x1024x1024.Idx → Elt F .f32) : S1x1024x1024.Idx → Elt F .f32 :=
  (Memref.whole cc0_stg3_0).view.writes (Elt F) out0
    (⟨Rect.unit (s := S1x1024x1024) ![0, 768, 0] S1x256x1024.size inb_S1x1024x1024_S1x256x1024_0_768_0, s₇.sl.v3535 WQ WO X KE VE c kb0 vb0⟩
      :: s₇.sl.Hout_15 WQ WO X KE VE c kb0 vb0)

/-- The halves of the staged block of `Wq`, and of `Wo`, are one again. -/
theorem rejoinWq (c : Dev nD) (W : S1024x1024.Idx → Elt F .f32) :
    iprop((wqM.view.loc (c : Thread nD τ) ↦[wqM.view.set]{fullShare.left} W) ∗ (wqM.view.loc (c : Thread nD τ) ↦[Finset.univ]{fullShare.right} W))
      ⊢ (wPts c wqM fullShare W : sProp 𝕄) := by
  rw [show wqM.view.set = Finset.univ from View.set_whole _]
  exact (pointsTo_share (PosShare.mem_left_op_right fullShare)).2
/-- The lent and the kept half of the device's own block of `Wo` are the whole of it. -/
theorem rejoinWo (c : Dev nD) (W : S1024x1024.Idx → Elt F .f32) :
    iprop((woM.view.loc (c : Thread nD τ) ↦[woM.view.set]{fullShare.left} W) ∗ (woM.view.loc (c : Thread nD τ) ↦[Finset.univ]{fullShare.right} W))
      ⊢ (wPts c woM fullShare W : sProp 𝕄) := by
  rw [show woM.view.set = Finset.univ from View.set_whole _]
  exact (pointsTo_share (PosShare.mem_left_op_right fullShare)).2

/-- All five slots at the end, and the two buffers they make up. -/
theorem slotsBack (c : Dev nD) (f0 f1 : S2x1024x1024.Idx → Elt F .f32) (g0 g1 g2 : S3x1024x1024.Idx → Elt F .f32) :
    iprop((slotQ0.view.loc (c : Thread nD τ) ↦[slotQ0.view.set]{fullShare} f0)
        ∗ ((slotQ1.view.loc (c : Thread nD τ) ↦[slotQ1.view.set]{fullShare.left} f1) ∗ (slotQ1.view.loc (c : Thread nD τ) ↦[slotQ1.view.set]{fullShare.right} f1))
        ∗ ((slotO0.view.loc (c : Thread nD τ) ↦[slotO0.view.set]{fullShare.left} g0) ∗ (slotO0.view.loc (c : Thread nD τ) ↦[slotO0.view.set]{fullShare.right} g0))
        ∗ ((slotO1.view.loc (c : Thread nD τ) ↦[slotO1.view.set]{fullShare.left} g1) ∗ (slotO1.view.loc (c : Thread nD τ) ↦[slotO1.view.set]{fullShare.right} g1))
        ∗ (slotO2.view.loc (c : Thread nD τ) ↦[slotO2.view.set]{fullShare} g2))
      ⊢ (iprop((∃ f, ((c : Thread nD τ).loc cc0_scratch0) ↦{fullShare} f) ∗ (∃ f, ((c : Thread nD τ).loc cc0_scratch1) ↦{fullShare} f)) : sProp 𝕄) := by
  iintro ⟨Q0, Q1, O0, O1, O2⟩
  ihave Q1 := (whole_of_halves (F := F) c slotQ1 f1) $$ Q1
  ihave O0 := (whole_of_halves (F := F) c slotO0 g0) $$ O0
  ihave O1 := (whole_of_halves (F := F) c slotO1 g1) $$ O1
  isplitl [Q0 Q1]
  · iapply (joinQ (F := F) c f0 f1)
    isplitl [Q0]
    · iexact Q0
    · iexact Q1
  · iapply (joinO (F := F) c g0 g1 g2)
    isplitl [O0]
    · iexact O0
    · isplitl [O1]
      · iexact O1
      · iexact O2

/-- The departures, the exit, and so the whole run: of what the result buffer holds at the end, whatever the scratch
    buffers held at the start, `Φ` is to hold. -/
theorem runs [∀ e, Nonempty (Elt F e)] (Φ : Dev nD → (S1x1024x1024.Idx → Elt F .f32) → Prop) (c : Dev nD)
    (h : ∀ kb0 vb0 out0, Φ c (lastOut WQ WO X KE VE c kb0 vb0 out0)) : Runs WQ WO X KE VE Φ c := by
  refine (s₁ WQ WO X KE VE Φ c).2 ((s₂ WQ WO X KE VE Φ c).2 ((s₃ WQ WO X KE VE Φ c).2 ((s₄ WQ WO X KE VE Φ c).2
    ((s₅ WQ WO X KE VE Φ c).2 ((s₆ WQ WO X KE VE Φ c).2 ((s₇ WQ WO X KE VE Φ c).2 ?_))))))
  sl_resume
  have e10 := dev10_eq c
  have e11 := dev11_eq c
  have hw (s : DmaSem sig) (hs : lvOf (.dma s) ≤ 5) : (levAts L lv : sProp 𝕄) ⊢ MayWait (c : Thread nD τ) (.dma s) () (O1 c) := mayWait_of 5 c _ hs (above1 c)
  delta O1 at hw
  have hws0 := hw ⟨4, by decide⟩ (by decide)
  have hws2 := hw ⟨6, by decide⟩ (by decide)
  have hws3 := hw ⟨7, by decide⟩ (by decide)
  have hws4 := hw ⟨8, by decide⟩ (by decide)
  have hws5 := hw ⟨9, by decide⟩ (by decide)
  clear hw
  have hwe : (levAts L lv : sProp 𝕄) ⊢ MayWait (c : Thread nD τ) (.reg ⟨1, by decide⟩) () 0 := mayWait_of 6 c _ (by decide) (fun g u h => absurd h (by simp))
  sl_exec_parts
  ihave HQ := (rejoinWq (F := F) c (WQ c)) $$ [Ps0_pay1 HQr]
  · isplitl [Ps0_pay1]
    · iexact Ps0_pay1
    · iexact HQr
  ihave HO := (rejoinWo (F := F) c (WO c)) $$ [Ps3_pay1 HOr]
  · isplitl [Ps3_pay1]
    · iexact Ps3_pay1
    · iexact HOr
  ihave Hslots := (slotsBack (F := F) c (bufQ (WQ (prv (prv (prv c))))) (bufQ (WQ (prv (prv c)))) (bufO (WO (nxt c))) (bufO (WO (nxt (nxt c)))) (bufO (WO (nxt (nxt (nxt c))))))
    $$ [Q2 Ps2_pay1 Q1r Ps4_pay1 O0r Ps5_pay1 O1r O2h]
  · isplitl [Q2]
    · iexact Q2
    isplitl [Ps2_pay1 Q1r]
    · isplitl [Ps2_pay1]
      · iexact Ps2_pay1
      · iexact Q1r
    isplitl [Ps4_pay1 O0r]
    · isplitl [Ps4_pay1]
      · iexact Ps4_pay1
      · iexact O0r
    isplitl [Ps5_pay1 O1r]
    · isplitl [Ps5_pay1]
      · iexact Ps5_pay1
      · iexact O1r
    · iexact O2h
  icases Hslots with ⟨HQs, HOs⟩
  sl_step
  iapply HK'
  isplitl [HX HQ HO HK HV]
  · isplitl [HX]
    · iexact HX
    isplitl [HQ]
    · iexact HQ
    isplitl [HO]
    · iexact HO
    isplitl [HK]
    · iexact HK
    · iexact HV
  isplitl [Hout]
  · iexists (lastOut WQ WO X KE VE c kb0 vb0 out0)
    isplitr
    · ipureintro
      exact h _ _ _
    · iexact Hout
  isplitl [HQs]
  · iexact HQs
  isplitl [HOs]
  · iexact HOs
  isplitl [Hkb Hvb Hst]
  · isplitl [Hkb]
    · iexists _
      iexact Hkb
    isplitl [Hvb]
    · iexists _
      iexact Hvb
    · iexists _
      iexact Hst
  isplitl [Ps0 Ps1 Ps2 Ps3 Ps4 Ps5 Pr0 Pr1 Pr2 Pr3 Pr4 Pr5 Pc Pe Pb]
  · isplitl [Ps0]
    · iexact Ps0
    isplitl [Ps1]
    · iexact Ps1
    isplitl [Ps2]
    · iexact Ps2
    isplitl [Ps3]
    · iexact Ps3
    isplitl [Ps4]
    · iexact Ps4
    isplitl [Ps5]
    · iexact Ps5
    isplitl [Pr0]
    · iexact Pr0
    isplitl [Pr1]
    · iexact Pr1
    isplitl [Pr2]
    · iexact Pr2
    isplitl [Pr3]
    · iexact Pr3
    isplitl [Pr4]
    · iexact Pr4
    isplitl [Pr5]
    · iexact Pr5
    isplitl [Pc]
    · iexact Pc
    isplitl [Pe]
    · iexact Pe
    · iexact Pb
  isplitl [Hs16]
  · iexact Hs16
  isplitl [Hs17]
  · iexact Hs17
  · iexists _
    iexact Howes

end Cert.RingAttn
-- ==== Proof.Ghost.lean ====
/-
# `Ghost`: what the launch deals to the devices

The cells of the ring's schedule, their duty tokens dealt around the ring, the invariants allocated for all devices at
once, and the launch's credits.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (WQ WO : Dev nD → S1024x1024.Idx → Elt F .f32)

/-! ## The cells -/

/-- The semaphores of the schedule's cells: departures, arrivals, the credit, the exit and the barrier. -/
abbrev csem : Fin 15 → SemLoc sig := fun
  | 0 => .dma ⟨4, by decide⟩ | 1 => .dma ⟨5, by decide⟩ | 2 => .dma ⟨6, by decide⟩ | 3 => .dma ⟨7, by decide⟩ | 4 => .dma ⟨8, by decide⟩
  | 5 => .dma ⟨9, by decide⟩ | 6 => .dma ⟨10, by decide⟩ | 7 => .dma ⟨11, by decide⟩ | 8 => .dma ⟨12, by decide⟩ | 9 => .dma ⟨13, by decide⟩
  | 10 => .dma ⟨14, by decide⟩ | 11 => .dma ⟨15, by decide⟩ | 12 => .reg ⟨0, by decide⟩ | 13 => .reg ⟨1, by decide⟩ | 14 => .reg ⟨2, by decide⟩

/-- The kernel's own scoped semaphores: the cells' but the barrier's, and the two of the local copies. -/
abbrev osem : Fin 16 → SemLoc sig := fun
  | 0 => .dma ⟨4, by decide⟩ | 1 => .dma ⟨5, by decide⟩ | 2 => .dma ⟨6, by decide⟩ | 3 => .dma ⟨7, by decide⟩ | 4 => .dma ⟨8, by decide⟩
  | 5 => .dma ⟨9, by decide⟩ | 6 => .dma ⟨10, by decide⟩ | 7 => .dma ⟨11, by decide⟩ | 8 => .dma ⟨12, by decide⟩ | 9 => .dma ⟨13, by decide⟩
  | 10 => .dma ⟨14, by decide⟩ | 11 => .dma ⟨15, by decide⟩ | 12 => .reg ⟨0, by decide⟩ | 13 => .reg ⟨1, by decide⟩
  | 14 => .dma ⟨16, by decide⟩ | 15 => .dma ⟨17, by decide⟩ | ⟨_ + 16, h⟩ => absurd h (Nat.not_lt.2 (Nat.le_add_left _ _))

/-- The semaphores listed are the kernel's own scoped ones. -/
theorem ownSemFacts : Pipeline.OwnSemFacts cfg0.spec osem := by decide

/-- The cell of a device and of one of the schedule's semaphores. -/
abbrev kcell (ck : Dev nD × Fin 15) : GSem nD τ sig := ((ck.1 : Thread nD τ), csem ck.2)

/-- The schedule's semaphores are distinct. -/
theorem csem_injective : Function.Injective csem := by decide

/-- The schedule's cells are distinct. -/
theorem kcell_injective : Function.Injective (kcell : Dev nD × Fin 15 → GSem nD τ sig) := by
  rintro ⟨c, k⟩ ⟨c', k'⟩ h
  have h1 : c = c' := congrArg (fun g : GSem nD τ sig => g.1.1) h
  subst h1
  exact congrArg (Prod.mk c) (csem_injective (congrArg Prod.snd h))

/-- All cells of the schedule. -/
def ringCells : Finset (GSem nD τ sig) := Finset.univ.map ⟨kcell, kcell_injective⟩

/-- The duties of a device's cells: every cell has `false`, the exit and the barrier `true` too. -/
abbrev dutyAt : Fin 17 → Fin 15 × Bool := fun
  | 0 => (0, false) | 1 => (1, false) | 2 => (2, false) | 3 => (3, false) | 4 => (4, false) | 5 => (5, false) | 6 => (6, false) | 7 => (7, false)
  | 8 => (8, false) | 9 => (9, false) | 10 => (10, false) | 11 => (11, false) | 12 => (12, false) | 13 => (13, false) | 14 => (14, false)
  | 15 => (13, true) | 16 => (14, true) | ⟨_ + 17, h⟩ => absurd h (Nat.not_lt.2 (Nat.le_add_left _ _))

/-- The duties listed are distinct. -/
theorem dutyAt_injective : Function.Injective dutyAt := by decide

/-- The name of a duty token: its cell, its round and its duty. -/
abbrev tokOf (cj : Dev nD × Fin 17) : GSem nD τ sig × ℕ × Bool := (kcell (cj.1, (dutyAt cj.2).1), 0, (dutyAt cj.2).2)

/-- The duty tokens listed are distinct. -/
theorem tokOf_injective : Function.Injective (tokOf : Dev nD × Fin 17 → GSem nD τ sig × ℕ × Bool) := by
  rintro ⟨c, j⟩ ⟨c', j'⟩ h
  have hk := kcell_injective (congrArg Prod.fst h)
  have h1 : c = c' := congrArg Prod.fst hk
  subst h1
  exact congrArg (Prod.mk c) (dutyAt_injective (Prod.ext (congrArg Prod.snd hk) (congrArg (fun x => x.2.2) h)))

/-- All duty tokens of the schedule. -/
def ringToks : Finset (GSem nD τ sig × ℕ × Bool) := Finset.univ.map ⟨tokOf, tokOf_injective⟩

/-- A product over fifteen, written out. -/
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A product over seventeen, written out. -/
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

/-! ## The launch element -/

/-- The element the launch starts from: the pipeline's cells and tokens, the ring's, and no counters. -/
def u₀ : UU :=
  (initOf (Pipeline.cells cfgs cellOf_inj) (Pipeline.launchToks cfgs cellOf_inj), (initOf ringCells ringToks, 1))

/-- The duty token of the duty `j` of a device's cells. -/
abbrev tok (j : Fin 17) (c : Dev nD) : sProp 𝕄 := dutyTok ER (tokOf (c, j)).1 (tokOf (c, j)).2.1 (tokOf (c, j)).2.2

/-- The duty tokens of device `c`'s own cells. -/
def toks (c : Dev nD) : sProp 𝕄 := bigSep Finset.univ fun j : Fin 17 => tok (F := F) j c

/-- What the launch element deals device `c`. -/
def G (c : Dev nD) : sProp 𝕄 :=
  iprop((bigSep Finset.univ fun k : Fin 15 => roundState ER (ringRd WQ WO) (kcell (c, k)) 0)
    ∗ (bigSep Finset.univ fun k : Fin 15 => iprop(atPos ER (kcell (c, k)) 0 ∅ 0 ∗ reached ER (kcell (c, k)) 0)) ∗ toks c)

/-- The two counters of the local copies. -/
def copySems (c : Dev nD) : sProp 𝕄 := iprop(semVal (dcell c ⟨16, by decide⟩) 0 ∗ semVal (dcell c ⟨17, by decide⟩) 0)

/-- What a device's body starts from of the ring's ghost state. -/
def ghost (κ : Dev nD × Fin 15 → ℕ) (c : Dev nD) : sProp 𝕄 :=
  iprop(knownOwn WQ WO κ c ∗ knownNear WQ WO κ c ∗ tokens c ∗ positions c 0 ∗ copySems c)

/-- What the launch's one step for all devices makes of it. -/
def G' (c : Dev nD) : sProp 𝕄 := iprop(∃ κ, ghost WQ WO κ c)

/-- The ring's part of the launch element deals every device its cells' states, positions and tokens. -/
theorem fund_ring : BI.own (ER (initOf ringCells ringToks)) ⊢ (|==> bigSep Finset.univ (G WQ WO) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rfl
  iintro HX
  imod (Rounds.fund ER (ringRd WQ WO) ringCells ringToks) $$ HX with ⟨Hst, Hr, Hat, Htok⟩
  imodintro
  ihave Hst' := (Entails.of_eq (hX fun g => roundState ER (ringRd WQ WO) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own counters at zero, written out. -/
theorem ownSems0_eq (c : Dev nD) : (Pipeline.ownSems0 (Ix := Unit) (Name := ℕ) (U := UU) (Lvl := ℕ) (Val := Elt F) (τ := τ) osem c : sProp 𝕄)
    = iprop(semVal (dcell c ⟨4, by decide⟩) 0 ∗ semVal (dcell c ⟨5, by decide⟩) 0 ∗ semVal (dcell c ⟨6, by decide⟩) 0 ∗ semVal (dcell c ⟨7, by decide⟩) 0
      ∗ semVal (dcell c ⟨8, by decide⟩) 0 ∗ semVal (dcell c ⟨9, by decide⟩) 0 ∗ semVal (dcell c ⟨10, by decide⟩) 0 ∗ semVal (dcell c ⟨11, by decide⟩) 0
      ∗ semVal (dcell c ⟨12, by decide⟩) 0 ∗ semVal (dcell c ⟨13, by decide⟩) 0 ∗ semVal (dcell c ⟨14, by decide⟩) 0 ∗ semVal (dcell c ⟨15, by decide⟩) 0
      ∗ semVal (rcell c ⟨0, by decide⟩) 0 ∗ semVal (rcell c ⟨1, by decide⟩) 0 ∗ semVal (dcell c ⟨16, by decide⟩) 0 ∗ semVal (dcell c ⟨17, by decide⟩) 0) := by
  rw [Pipeline.ownSems0_eq_of_list c osem [0, 1, 2, 3, 4, 5, 6, 7, 8, 9, 10, 11, 12, 13, 14, 15] (by decide) (by decide)]; rfl

/-- The one counter that outlives the kernel is the barrier's. -/
theorem unscopedSems0_eq (c : Dev nD) : (unscopedSems0 c : sProp 𝕄) = semVal (rcell c ⟨2, by decide⟩) 0 := by
  unfold unscopedSems0; rw [bigSep_eq_bigSepL_of_eq [SemLoc.reg ⟨2, by decide⟩] (by decide) (by decide)]; rfl

/-- The own and the unscoped counters are the cells' and the local copies'. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ copySems c) : sProp 𝕄) := by
  rw [ownSems0_eq, unscopedSems0_eq, bigSep_fin15]
  unfold copySems
  iintro ⟨⟨H0, H1, H2, H3, H4, H5, H6, H7, H8, H9, H10, H11, H12, H13, H16, H17⟩, H14⟩
  isplitr [H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · isplitl [H16]; · iexact H16
    iexact H17

/-- And back. -/
theorem sems0_join (c : Dev nD) :
    iprop((bigSep Finset.univ fun k : Fin 15 => semVal (kcell (c, k)) 0) ∗ copySems c)
      ⊢ (iprop(Pipeline.ownSems0 (Ix := Unit) (Name := ℕ) (U := UU) (Lvl := ℕ) (Val := Elt F) (τ := τ) osem c ∗ unscopedSems0 c) : sProp 𝕄) := by
  rw [ownSems0_eq, unscopedSems0_eq, bigSep_fin15]
  unfold copySems
  iintro ⟨⟨H0, H1, H2, H3, H4, H5, H6, H7, H8, H9, H10, H11, H12, H13, H14⟩, H16, H17⟩
  isplitr [H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H16]; · iexact H16
    iexact H17
  · iexact H14

/-- From its counters at zero and its share of the launch element, a device's cells become invariants. -/
theorem core_alloc (c : Dev nD) :
    iprop(Pipeline.ownSems0 (Ix := Unit) (Name := ℕ) (U := UU) (Lvl := ℕ) (Val := Elt F) (τ := τ) osem c ∗ unscopedSems0 c ∗ G WQ WO c)
      ⊢ |={Set.univ}=> iprop((bigSep Finset.univ fun k => iprop(∃ κ : ℕ, cellInv ER (ringRd WQ WO) κ (kcell (c, k))))
          ∗ (bigSep Finset.univ fun k => iprop(atPos ER (kcell (c, k)) 0 ∅ 0 ∗ reached ER (kcell (c, k)) 0)) ∗ toks c ∗ copySems c) := by
  unfold G
  iintro ⟨Hos, Hus, Hst, Hat, Htok⟩
  ihave Hv := (sems0_split (F := F) c) $$ [Hos Hus]
  · isplitl [Hos] <;> iassumption
  icases Hv with ⟨Hv, Hcp⟩
  imod (show iprop((bigSep Finset.univ fun k : Fin 15 => semVal (kcell (c, k)) 0) ∗ bigSep Finset.univ fun k : Fin 15 => roundState ER (ringRd WQ WO) (kcell (c, k)) 0)
      ⊢ (|={Set.univ}=> bigSep Finset.univ fun k => iprop(∃ κ : ℕ, cellInv ER (ringRd WQ WO) κ (kcell (c, k))) : sProp 𝕄) from by
        rw [← bigSep_sep']
        exact (bigSep_mono fun k _ => (Rounds.body_intro ER (ringRd WQ WO) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcp

/-! ## The invariants handed round -/

/-- What everyone may know: the invariant of every cell, and that its round 0 is reached. -/
def records (κ : Dev nD × Fin 15 → ℕ) : sProp 𝕄 :=
  iprop((bigSep Finset.univ fun ck : Dev nD × Fin 15 => cellInv ER (ringRd WQ WO) (κ ck) (kcell ck))
    ∗ bigSep Finset.univ fun ck : Dev nD × Fin 15 => reached ER (kcell ck) 0)

instance records_persistent (κ : Dev nD × Fin 15 → ℕ) : BI.Persistent (records WQ WO κ) := by unfold records; infer_instance

/-- Everything is known of every cell. -/
theorem known_at (κ : Dev nD × Fin 15 → ℕ) (c : Dev nD) (k : Fin 15) : records WQ WO κ ⊢ known WQ WO κ c k (csem k) :=
  BI.sep_mono (bigSep_elim (Finset.mem_univ (c, k))) (bigSep_elim (Finset.mem_univ (c, k)))

/-- From the shared knowledge, what a device knows of its own cells, -/
theorem knownOwn_intro (κ : Dev nD × Fin 15 → ℕ) (c : Dev nD) : records WQ WO κ ⊢ knownOwn WQ WO κ c := by
  have h := known_at WQ WO κ c
  unfold knownOwn
  iintro #H
  isplitr; · iapply (h 0); iexact H
  isplitr; · iapply (h 1); iexact H
  isplitr; · iapply (h 2); iexact H
  isplitr; · iapply (h 3); iexact H
  isplitr; · iapply (h 4); iexact H
  isplitr; · iapply (h 5); iexact H
  isplitr; · iapply (h 6); iexact H
  isplitr; · iapply (h 7); iexact H
  isplitr; · iapply (h 8); iexact H
  isplitr; · iapply (h 9); iexact H
  isplitr; · iapply (h 10); iexact H
  isplitr; · iapply (h 11); iexact H
  isplitr; · iapply (h 12); iexact H
  isplitr; · iapply (h 13); iexact H
  iapply (h 14); iexact H

/-- and what it knows of its neighbours'. -/
theorem knownNear_intro (κ : Dev nD × Fin 15 → ℕ) (c : Dev nD) : records WQ WO κ ⊢ knownNear WQ WO κ c := by
  have h := known_at WQ WO κ
  unfold knownNear
  iintro #H
  isplitr; · iapply (h (nxt c) 6); iexact H
  isplitr; · iapply (h (nxt c) 7); iexact H
  isplitr; · iapply (h (nxt c) 8); iexact H
  isplitr; · iapply (h (prv c) 9); iexact H
  isplitr; · iapply (h (prv c) 10); iexact H
  isplitr; · iapply (h (prv c) 11); iexact H
  isplitr; · iapply (h (prv c) 12); iexact H
  isplitr; · iapply (h (prv c) 13); iexact H
  isplitr; · iapply (h (nxt c) 13); iexact H
  isplitr; · iapply (h (prv c) 14); iexact H
  iapply (h (nxt c) 14); iexact H

/-- What stays with device `c`: its positions, the tokens of the duties it pays, and the two counters. -/
def linear (c : Dev nD) : sProp 𝕄 :=
  iprop((bigSep Finset.univ fun k : Fin 15 => atPos ER (kcell (c, k)) 0 ∅ 0) ∗ tokens c ∗ copySems c)

/-- The shared knowledge and a device's own part are what its body starts from. -/
theorem ghost_intro (κ : Dev nD × Fin 15 → ℕ) (c : Dev nD) : iprop(records WQ WO κ ∗ linear c) ⊢ G' WQ WO c := by
  unfold linear G' ghost
  rw [bigSep_fin15]
  iintro ⟨#HR, Hp, Ht, Hc⟩
  iexists κ
  isplitr; · iapply (knownOwn_intro WQ WO κ c); iexact HR
  isplitr; · iapply (knownNear_intro WQ WO κ c); iexact HR
  isplitl [Ht]; · iexact Ht
  isplitl [Hp]; · unfold positions; iexact Hp
  iexact Hc

/-- The tokens dealt around the ring: a device pays its right neighbour's `Wq` arrivals, its left neighbour's `Wo`
    arrivals and credit, and one exit and one barrier duty of each. -/
theorem toks_around : (bigSep Finset.univ fun c : Dev nD => (toks c : sProp 𝕄)) ⊢ bigSep Finset.univ fun c : Dev nD => tokens c := by
  have up (j : Fin 17) := bigSep_univ_equiv ring (fun c : Dev nD => (tok (F := F) j c))
  have down (j : Fin 17) := bigSep_univ_equiv ring.symm (fun c : Dev nD => (tok (F := F) j c))
  have e : (fun c : Dev nD => (toks c : sProp 𝕄)) = fun c => iprop(tok 0 c ∗ tok 1 c ∗ tok 2 c ∗ tok 3 c ∗ tok 4 c ∗ tok 5 c ∗ tok 6 c ∗ tok 7 c
      ∗ tok 8 c ∗ tok 9 c ∗ tok 10 c ∗ tok 11 c ∗ tok 12 c ∗ tok 13 c ∗ tok 14 c ∗ tok 15 c ∗ tok 16 c) := by
    funext c; unfold toks; rw [bigSep_fin17]
  have e' : (fun c : Dev nD => (tokens c : sProp 𝕄)) = fun c => iprop(tok 0 c ∗ tok 1 c ∗ tok 2 c ∗ tok 3 c ∗ tok 4 c ∗ tok 5 c
      ∗ tok 6 (ring c) ∗ tok 7 (ring c) ∗ tok 8 (ring c) ∗ tok 9 (ring.symm c) ∗ tok 10 (ring.symm c) ∗ tok 11 (ring.symm c)
      ∗ tok 12 (ring.symm c) ∗ tok 15 (ring.symm c) ∗ tok 13 (ring c) ∗ tok 16 (ring.symm c) ∗ tok 14 (ring c)) := rfl
  rw [e, e']
  simp only [bigSep_sep']
  rw [up 6, up 7, up 8, down 9, down 10, down 11, down 12, up 13, up 14, down 15, down 16]
  iintro ⟨H0, H1, H2, H3, H4, H5, H6, H7, H8, H9, H10, H11, H12, H13, H14, H15, H16⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H15]; · iexact H15
  isplitl [H13]; · iexact H13
  isplitl [H16]; · iexact H16
  iexact H14

/-- Something persistent may be used in every factor of a product. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants and tokens of all devices, regrouped: every device gets what its body starts from. -/
theorem regroup :
    (bigSep Finset.univ fun c : Dev nD => iprop((bigSep Finset.univ fun k => iprop(∃ κ : ℕ, cellInv ER (ringRd WQ WO) κ (kcell (c, k))))
          ∗ (bigSep Finset.univ fun k => iprop(atPos ER (kcell (c, k)) 0 ∅ 0 ∗ reached ER (kcell (c, k)) 0)) ∗ toks c ∗ copySems c) : sProp 𝕄)
      ⊢ bigSep Finset.univ (G' WQ WO) := by
  rw [bigSep_sep', bigSep_sep', bigSep_sep', ← bigSep_univ_prod (fun ck : Dev nD × Fin 15 => iprop(∃ κ : ℕ, cellInv ER (ringRd WQ WO) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hcp⟩
  ihave HK := (BI.bigSep_exists_pi Finset.univ (fun (ck : Dev nD × Fin 15) (κ : ℕ) => (cellInv ER (ringRd WQ WO) κ (kcell ck) : sProp 𝕄))) $$ HI
  icases HK with ⟨%κ, #HI⟩
  ihave Htk := (toks_around (F := F)) $$ Htok
  iapply (bigSep_beside (R := records WQ WO κ) fun c _ => ghost_intro WQ WO κ c)
  isplitr
  · unfold records; isplitl; · iexact HI
    iexact HR
  · unfold linear
    simp only [bigSep_sep']
    isplitl [Hat]; · iexact Hat
    isplitl [Htk]; · iexact Htk
    iexact Hcp

/-- The launch's one step for all devices. -/
theorem glob : (bigSep Finset.univ fun c => iprop(Pipeline.ownSems0 (Ix := Unit) (Name := ℕ) (U := UU) (Lvl := ℕ) (Val := Elt F) (τ := τ) osem c ∗ unscopedSems0 c ∗ G WQ WO c) : sProp 𝕄)
    ⊢ |={Set.univ}=> bigSep Finset.univ (G' WQ WO) :=
  ((bigSep_mono fun c _ => core_alloc WQ WO c).trans (bigSep_fupd _ _)).trans (BI.fupd_mono (regroup WQ WO))

/-! ## The launch's credits -/

/-- The debt to one cell, looked up at another: all of it at the same cell, nothing elsewhere. -/
theorem tally_at (a b : Dev nD) (s t : SemLoc sig) (n : ℕ) :
    (tallyAt ((a : Thread nD τ), s) () n : CellTallies nD τ sig Unit) ((b : Thread nD τ), t) () = if a = b ∧ s = t then n else 0 := by
  rw [tallyAt_apply]
  refine if_congr ⟨fun h => ?_, fun h => ?_⟩ rfl rfl
  · exact ⟨congrArg (fun g : GSem nD τ sig => g.1.1) h.1.symm, congrArg Prod.snd h.1.symm⟩
  · rw [h.1, h.2]; exact ⟨rfl, rfl⟩

/-- The cells the launch credits, with what it credits them. -/
abbrev credOf : Fin 9 → SemLoc sig × ℕ := fun
  | 0 => (.dma ⟨10, by decide⟩, N) | 1 => (.dma ⟨11, by decide⟩, N) | 2 => (.dma ⟨12, by decide⟩, N)
  | 3 => (.dma ⟨13, by decide⟩, N) | 4 => (.dma ⟨14, by decide⟩, N) | 5 => (.dma ⟨15, by decide⟩, N)
  | 6 => (.reg ⟨0, by decide⟩, 1) | 7 => (.reg ⟨1, by decide⟩, 2) | 8 => (.reg ⟨2, by decide⟩, 2)

/-- What all devices together owe a cell is what the launch credits it. -/
theorem owed_sum (c : Dev nD) (k : Fin 9) : ∑ d : Dev nD, O₀ d ((c : Thread nD τ), (credOf k).1) () = (credOf k).2 := by
  simp only [Pi.add_apply, Finsupp.add_apply, tally_at]
  revert c k
  decide

/-- The launch's credit of a cell, as a debt to that cell alone. -/
theorem launch_cell (c : Dev nD) (k : Fin 9) :
    tallyOn ((c : Thread nD τ), (credOf k).1) (launchCredit (Pipeline.owing O₀) 0 ((c : Thread nD τ), (credOf k).1))
      = (tallyAt ((c : Thread nD τ), (credOf k).1) () (credOf k).2 : CellTallies nD τ sig Unit) := by
  unfold tallyAt; refine congrArg _ (Finsupp.ext fun u => ?_); cases u
  rw [Pipeline.launchCredit_owing, Finsupp.single_eq_same, owed_sum]

/-- The cells a device has credits for are distinct. -/
theorem credOf_injective : Function.Injective fun k => (credOf k).1 := by decide

/-- The launch's credits of a device are those its body spends. -/
theorem creds (c : Dev nD) : (Pipeline.launchCred O₀ c : sProp 𝕄) ⊢ credits c := by
  unfold Pipeline.launchCred
  refine (bigSep_subset (Finset.subset_univ (Finset.univ.map ⟨fun k => (credOf k).1, credOf_injective⟩))).trans ?_
  rw [bigSep_map]
  refine (Entails.of_eq (bigSep_congr (s := Finset.univ) fun (k : Fin 9) _ => congrArg cred (launch_cell c k))).trans ?_
  rw [bigSep_univ_eq_bigSepL [0, 1, 2, 3, 4, 5, 6, 7, 8] (by decide) (by decide)]
  exact Entails.rfl

end Cert.RingAttn

end
-- ==== Proof.Launch.lean ====
/-
# `Launch`: the run of the whole program

Every device runs the kernel's body once; the launch gathers the runs. Whatever contents `out` the body is known to
leave in the result buffer, every execution ends with the result array at them, the arguments unchanged and every
semaphore at zero.
-/
module

public import proofs.«01_k».proof.Proof.Rest
public import proofs.«01_k».proof.Proof.Ghost
public import Idealize.ShloMosaic.Lib.Pipeline.CollectiveSegs

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The arguments -/

/-- Device `c`'s block of `x`, of `Wq`, of `Wo`, as staged, -/
def argX (c : Dev nD) : S1x1024x1024.Idx → Elt F .f32 := (win0_0.blk (0 : Fin 1)).view.read (Elt F) (m ((c : Thread nD τ).loc main_arg0))
/-- Device `c`'s block of `Wq`, as staged, -/
def argQ (c : Dev nD) : S1024x1024.Idx → Elt F .f32 := (win0_1.blk (0 : Fin 1)).view.read (Elt F) (m ((c : Thread nD τ).loc main_arg1))
/-- and its block of `Wo`, -/
def argO (c : Dev nD) : S1024x1024.Idx → Elt F .f32 := (win0_2.blk (0 : Fin 1)).view.read (Elt F) (m ((c : Thread nD τ).loc main_arg4))
/-- and its copies of `K_ext` and `V_ext`. -/
def argK (c : Dev nD) : S4x1024x32x128.Idx → Elt F .f32 := m ((c : Thread nD τ).loc main_arg2)
/-- Device `c`'s copy of `V_ext`. -/
def argV (c : Dev nD) : S4x1024x32x128.Idx → Elt F .f32 := m ((c : Thread nD τ).loc main_arg3)

variable (out : Dev nD → S1x1024x1024.Idx → Elt F .f32)

/-! ## The pipeline's proof data -/

/-- The five scratch buffers at some contents. -/
def scr (c : Dev nD) : sProp 𝕄 :=
  iprop((∃ f, ((c : Thread nD τ).loc cc0_scratch0) ↦{fullShare} f) ∗ (∃ f, ((c : Thread nD τ).loc cc0_scratch1) ↦{fullShare} f) ∗ scratch c)

/-- The copies of `K_ext` and `V_ext`. -/
def exts (c : Dev nD) : sProp 𝕄 :=
  iprop((((c : Thread nD τ).loc main_arg2) ↦{fullShare} (m ((c : Thread nD τ).loc main_arg2))) ∗ (((c : Thread nD τ).loc main_arg3) ↦{fullShare} (m ((c : Thread nD τ).loc main_arg3))))

/-- What device `c`'s body starts from beside its scratch. -/
def start (c : Dev nD) : sProp 𝕄 := iprop(G' (argQ m) (argO m) c ∗ credits c ∗ levAts L lv ∗ exts m c)

/-- Before the body: what it starts from, and its scratch. -/
def Φ₀ (c : Dev nD) : sProp 𝕄 := iprop(start m c ∗ scr c)
/-- After the body: every cell closed, its counter at zero. -/
def Φ₁ (c : Dev nD) : sProp 𝕄 :=
  iprop(exts m c ∗ scr c ∗ (bigSep Finset.univ fun k : Fin 15 => semVal (kcell (c, k)) 0) ∗ copySems c)

/-- The pipeline's data: each window's array before, its buffer after the body, and what the body holds and owes before and after. -/
def dats (_ : Fin 1) (c : Dev nD) : Dat τ (Elt F) Unit ℕ UU ℕ cfg0 c where
  A w := m ((cfg0.win w).arr.view.loc (c : Thread nD τ))
  after w _ := match w with
    | ⟨0, _⟩ => argX m c
    | ⟨1, _⟩ => argQ m c
    | ⟨2, _⟩ => argO m c
    | ⟨3, _⟩ => out c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The pipeline has one step, -/
theorem cfg0_N : cfg0.N = 1 := by decide
/-- namely this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- A product over the windows, written out. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- The window of `x` is fetched. -/
theorem fetch_0 (t : Fin cfg0.N) : (cfg0.win (0 : Fin 4)).fetch t = true := by rw [fin_N t]; rfl
/-- The window of `Wq` is fetched. -/
theorem fetch_1 (t : Fin cfg0.N) : (cfg0.win (1 : Fin 4)).fetch t = true := by rw [fin_N t]; rfl
/-- The window of `Wo` is fetched. -/
theorem fetch_2 (t : Fin cfg0.N) : (cfg0.win (2 : Fin 4)).fetch t = true := by rw [fin_N t]; rfl

/-- Owning a whole buffer at contents `X` is holding it at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
/-- What the body starts from: its state, its debts and the four staging buffers. -/
def bodyPre (c : Dev nD) : sProp 𝕄 :=
  iprop(Φ₀ m c ∗ (dats m out 0 c).owesAt () t₀.castSucc
    ∗ (∃ d, stg c cc0_stg0_0 ((dats m out 0 c).before (0 : Fin 4) t₀ d))
    ∗ (∃ d, stg c cc0_stg1_0 ((dats m out 0 c).before (1 : Fin 4) t₀ d))
    ∗ (∃ d, stg c cc0_stg2_0 ((dats m out 0 c).before (2 : Fin 4) t₀ d))
    ∗ (∃ d, stg c cc0_stg3_0 ((dats m out 0 c).before (3 : Fin 4) t₀ d)))

set_option maxRecDepth 4000 in
/-- What the body ends with: every cell closed, nothing owed, the inputs as staged and the result `out`. -/
def bodyPost (c : Dev nD) : sProp 𝕄 :=
  iprop(Φ₁ m c ∗ (dats m out 0 c).owesAt () t₀.succ
    ∗ stg c cc0_stg0_0 (argX m c) ∗ stg c cc0_stg1_0 (argQ m c) ∗ stg c cc0_stg2_0 (argO m c) ∗ stg c cc0_stg3_0 (out c))

/-- The cells of a device, all one round on, close: their counters read zero. -/
theorem close_cells (WQ WO : Dev nD → S1024x1024.Idx → Elt F .f32) (κ : Dev nD × Fin 15 → ℕ) (c : Dev nD) :
    iprop(knownOwn WQ WO κ c ∗ positions c 1) ⊢ (|={Set.univ}=> (bigSep Finset.univ fun k : Fin 15 => semVal (kcell (c, k)) 0) : sProp 𝕄) := by
  have h (k : Fin 15) : iprop(known WQ WO κ c k (csem k) ∗ atPos ER (kcell (c, k)) 1 ∅ 0) ⊢ (|={Set.univ}=> semVal (kcell (c, k)) 0 : sProp 𝕄) := by
    iintro ⟨⟨#HI, -⟩, Hat⟩
    iapply (Rounds.cell_close ER (ringRd WQ WO) (Set.mem_univ (κ (c, k))) (fun h => h) (R := 1) (duties_later WQ WO (kcell (c, k))))
    isplitr; · iexact HI
    iexact Hat
  have e : (bigSep Finset.univ fun k : Fin 15 => iprop(known WQ WO κ c k (csem k) ∗ atPos ER (kcell (c, k)) 1 ∅ 0) : sProp 𝕄)
      ⊢ |={Set.univ}=> (bigSep Finset.univ fun k : Fin 15 => semVal (kcell (c, k)) 0 : sProp 𝕄) :=
    (bigSep_mono fun k _ => h k).trans (bigSep_fupd _ _)
  refine BIBase.Entails.trans ?_ e
  rw [bigSep_sep', bigSep_fin15 (fun k => known WQ WO κ c k (csem k)), bigSep_fin15 (fun k => atPos ER (kcell (c, k)) 1 ∅ 0)]
  unfold knownOwn positions
  exact Entails.rfl

instance knownOwn_persistent (WQ WO : Dev nD → S1024x1024.Idx → Elt F .f32) (κ : Dev nD × Fin 15 → ℕ) (c : Dev nD) :
    BI.Persistent (knownOwn WQ WO κ c) := by unfold knownOwn; infer_instance

instance knownNear_persistent (WQ WO : Dev nD → S1024x1024.Idx → Elt F .f32) (κ : Dev nD × Fin 15 → ℕ) (c : Dev nD) :
    BI.Persistent (knownNear WQ WO κ c) := by unfold knownNear; infer_instance

variable [∀ e, Nonempty (Elt F e)]
variable (hout : ∀ c kb0 vb0 out0, lastOut (argQ m) (argO m) (argX m) (argK m) (argV m) c kb0 vb0 out0 = out c)

include hout in
/-- The body runs from `bodyPre` to `bodyPost`. -/
theorem sound_body (c : Dev nD) : bodyPre m out c ⊢ wp frame (wpE (defs₀ (F := F)) 𝒱₀ (c : Thread nD τ) none) Set.univ theBody (fun _ => bodyPost m out c) := by
  have hrun := runs (argQ m) (argO m) (argX m) (argK m) (argV m) (fun c f => f = out c) c (hout c)
  unfold bodyPre Φ₀ start G' ghost scr exts
  iintro ⟨⟨⟨⟨%κ, #Hown, #Hnear, Htok, Hpos, Hcs⟩, Hcred, #Hlev, HK, HV⟩, Hs0, Hs1, Hscr⟩, Ho, ⟨%d0, ⟨%g0, %hg0, HX⟩⟩, ⟨%d1, ⟨%g1, %hg1, HQ⟩⟩, ⟨%d2, ⟨%g2, %hg2, HO⟩⟩, ⟨%d3, ⟨%g3, %hg3, Hout⟩⟩⟩
  have e0 : g0 = argX m c := by rw [hg0]; unfold Dat.before; rw [if_pos (fetch_0 t₀)]; rfl
  have e1 : g1 = argQ m c := by rw [hg1]; unfold Dat.before; rw [if_pos (fetch_1 t₀)]; rfl
  have e2 : g2 = argO m c := by rw [hg2]; unfold Dat.before; rw [if_pos (fetch_2 t₀)]; rfl
  rw [e0, e1, e2]
  unfold Dat.owesAt Pipeline.owesWithin
  icases Ho with ⟨%W, %hW, Howes⟩
  unfold copySems
  icases Hcs with ⟨H16, H17⟩
  iapply (wp_fupd frame (wpE (defs₀ (F := F)) 𝒱₀ (c : Thread nD τ) none) Set.univ theBody fun _ => bodyPost m out c)
  iapply (hrun κ W fun _ => iprop(|={Set.univ}=> bodyPost m out c))
  isplitr; · iexact Hown
  isplitr; · iexact Hnear
  isplitr; · iexact Hlev
  isplitl [Htok]; · iexact Htok
  isplitl [Hpos]; · iexact Hpos
  isplitl [Hcred]; · iexact Hcred
  isplitl [HX HQ HO HK HV]
  · unfold inputs
    isplitl [HX]; · iexact HX
    isplitl [HQ]; · iexact HQ
    isplitl [HO]; · iexact HO
    isplitl [HK]; · iexact HK
    iexact HV
  isplitl [Hout]; · iexists g3; iexact Hout
  isplitl [Hs0]; · iexact Hs0
  isplitl [Hs1]; · iexact Hs1
  isplitl [Hscr]; · iexact Hscr
  isplitl [H16]; · iexact H16
  isplitl [H17]; · iexact H17
  isplitl [Howes]; · iexact Howes
  unfold inputs
  iintro ⟨⟨HX, HQ, HO, HK, HV⟩, ⟨%f, %hf, Hout⟩, Hs0, Hs1, Hscr, Hpos, H16, H17, ⟨%W', Howes⟩⟩
  imod (close_cells (argQ m) (argO m) κ c) $$ [Hpos] with Hz
  · isplitr; · iexact Hown
    iexact Hpos
  imodintro
  unfold bodyPost Φ₁ Dat.owesAt Pipeline.owesWithin exts scr copySems
  rw [show (dats m out 0 c).owed t₀.succ = 0 from rfl]
  isplitl [HK HV Hs0 Hs1 Hscr Hz H16 H17]
  · isplitl [HK HV]
    · isplitl [HK]; · iexact HK
      iexact HV
    isplitl [Hs0 Hs1 Hscr]
    · isplitl [Hs0]; · iexact Hs0
      isplitl [Hs1]; · iexact Hs1
      iexact Hscr
    isplitl [Hz]; · iexact Hz
    isplitl [H16]; · iexact H16
    iexact H17
  isplitl [Howes]
  · iexists W'
    isplitr; · ipureintro; exact fun _ _ => Or.inl trivial
    iexact Howes
  isplitl [HX]
  · iexists _; isplitr; · (ipureintro; rfl)
    iexact HX
  isplitl [HQ]
  · iexists _; isplitr; · (ipureintro; rfl)
    iexact HQ
  isplitl [HO]
  · iexists _; isplitr; · (ipureintro; rfl)
    iexact HO
  iexists f; isplitr; · (ipureintro; exact hf)
  iexact Hout

include hout in
set_option maxRecDepth 20000 in
/-- The library's body obligation on core `c`. -/
theorem body_obligation (c : Dev nD) : BodyObligation (dats (F := F) m out 0 c) (defs₀ (F := F)) 𝒱₀ () Set.univ := fun t => by
  rw [fin_N t]
  rw [bigSep_W, bigSep_W]
  simp only [owns_whole_eq]
  have e : (defs₀ (F := F)) .tc cfg0.body (cfg0.bodyArgs t₀ (cfg0.slots t₀)) = theBody := rfl
  have key := sound_body m out hout c
  rw [e]
  generalize (theBody : Prog (TpuEff nD τ sig (Elt F) Λ₀ .tc) PUnit) = b at key ⊢
  exact key

/-! ## The launch -/

/-- Every window's array is held whole. -/
theorem share_eq (c : Dev nD) (w : Fin cfg0.W) : (dats m out 0 c).share w = fullShare := by unfold Dat.share; split <;> rfl

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argQ m) (argO m) c)
      ⊢ |={Set.univ}=> iprop(start m c ∗ emp) := by
  iintro ⟨HU, Hlev, Hcr, -, HG⟩
  ihave Hc := (creds (F := F) c) $$ Hcr
  ihave HU := (show Pipeline.unscopedRestP Pipeline.Prefetch.none cfg0.spec c (fun b => m ((c : Thread nD τ).loc b)) ⊢ (exts m c : sProp 𝕄) from
    Entails.of_eq (unscopedRest0_eq c (fun b => m ((c : Thread nD τ).loc b)))) $$ HU
  imodintro
  unfold start
  isplitl
  · isplitl [HG]; · iexact HG
    isplitl [Hc]; · iexact Hc
    isplitl [Hlev]; · iexact Hlev
    iexact HU
  · iempintro

/-- With the scratch buffers it is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m out 0 c).Φ 0 := by
  rw [show (dats m out 0 c).Φ 0 = Φ₀ m c from rfl, scopedRest0_eq]
  unfold Φ₀
  iintro ⟨Hs, -, Hr⟩
  isplitl [Hs]; · iexact Hs
  unfold scr scratch
  iexact Hr

/-- The state after the body gives back the counters at zero, the scratch buffers, and `K_ext` and `V_ext`. -/
theorem phi1_exit (c : Dev nD) :
    (dats m out 0 c).Φ (Fin.last cfg0.N) ⊢ iprop((unscopedSems0 c ∗ exts m c) ∗ Pipeline.ownSems0 osem c ∗ Pipeline.scopedRest cfg0.spec c) := by
  rw [show (dats m out 0 c).Φ (Fin.last cfg0.N) = Φ₁ m c from rfl, scopedRest0_eq]
  unfold Φ₁
  iintro ⟨He, Hr, Hz, Hc⟩
  ihave Hz := (sems0_join (F := F) c) $$ [Hz Hc]
  · isplitl [Hz] <;> iassumption
  icases Hz with ⟨Hos, Hus⟩
  isplitl [Hus He]
  · isplitl [Hus] <;> iassumption
  isplitl [Hos]; · iexact Hos
  unfold scr scratch
  iexact Hr

/-- The pipeline's own waits are allowed: its semaphores stand below all that is owed. -/
theorem waits (c : Dev nD) : (levAts L lv : sProp 𝕄) ⊢ Pipeline.cellsWaits cfgs (dats m out) () 0 c :=
  Pipeline.cellsWaits_intro cfgs (dats m out) () 0 c fun w s t => by
    have hq : lvOf (.dma ((cfg0.win w).sem s)) ≤ 0 := by fin_cases w <;> fin_cases s <;> decide
    rcases t with ⟨_ | _, ht⟩
    · exact mayWait_of 0 c _ hq (above₀ c)
    · exact mayWait_of 0 c _ hq Above.zero

/-- The contents of the windows' arrays after the run. -/
def finalA (c : Dev nD) (w : Fin cfg0.W) : Buf (Elt F) ((cfg0.win w).arr.view.loc (c : Thread nD τ)) := (dats m out 0 c).arrAt w cfg0.N

/-- What the launch theorem says of the final memory. -/
def QC (r : PUnit × MemSt nD τ sig (Elt F)) : Prop :=
  ∀ c : Dev nD, (∀ w : Fin cfg0.W, r.2.mem ((cfg0.win w).arr.view.loc (c : Thread nD τ)) = finalA m out c w)
    ∧ r.2.mem ((c : Thread nD τ).loc main_arg2) = m ((c : Thread nD τ).loc main_arg2)
    ∧ r.2.mem ((c : Thread nD τ).loc main_arg3) = m ((c : Thread nD τ).loc main_arg3)

/-- `K_ext` and `V_ext` still held at their contents are unchanged in memory. -/
theorem exts_read (c : Dev nD) (s' : Phys nD τ sig (Elt F)) :
    iprop(exts m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  have h := pointsTo_read_all (Ix := Unit) (Name := ℕ) (U := UU) (Lvl := ℕ) ({main_arg2, main_arg3} : Finset (Ref sig .tc))
    (fun b => (c : Thread nD τ).loc b) (fun b => m ((c : Thread nD τ).loc b)) s'
  rw [bigSep_eq_bigSepL_of_eq [main_arg2, main_arg3] (by decide) (by decide)] at h
  refine (BIBase.Entails.trans ?_ h).trans ?_
  · unfold exts; exact Entails.rfl
  · iintro ⟨%h, HSI⟩
    isplitr
    · ipureintro; exact ⟨h main_arg2 (by decide), h main_arg3 (by decide)⟩
    iexact HSI

include hout in
set_option maxRecDepth 8000 in
/-- From any memory with zero counters every weakly fair execution of the program on the four devices ends, with each
    device's arrays as the pipeline leaves them, `K_ext` and `V_ext` unchanged and every semaphore at zero. -/
theorem run_main : θ_run defs (onTc (τ := τ) (main (F := F))) ⟨m, fun _ => 0, ρ⟩ (fun r => QC m out r ∧ r.2.sem = fun _ => 0) :=
  Pipeline.θ_run_region_owing_glob_pf (fun p => (cfgs p).toPCfg) (fun p => (cfgs p).toPCfg_adm) (dats m out) () cellOf_inj (0 : Fin 1)
    winFacts0.to₀ ownSemFacts (Pipeline.PreFacts.none _) EP defs₀ 𝒱₀ m ρ main
    (hmain := fun _ => rfl)
    (hbody := fun c => (body_obligation m out hout c).loose) (hne := fun w => by fin_cases w <;> exact Nat.succ_pos _) (harr := arr_whole0) (hstage := stage_whole0) (hshare := share_eq m out)
    (hdistinct := winFacts0.arr_inj)
    (O₀ := O₀) (howed₀ := fun _ => rfl) (howedN := fun _ => rfl)
    (L := L) (lv := lv) (hL := L_of_ne) (hwaits := waits m out)
    (G := G (argQ m) (argO m)) (G' := G' (argQ m) (argO m)) (u₀ := u₀)
    (hu₀ := by
      unfold u₀
      iintro Hu
      ihave H := (ownU_pair _ _) $$ Hu
      icases H with ⟨HP, HX⟩
      ihave H' := (own_pair_emb EX _ _) $$ HX
      icases H' with ⟨HR, -⟩
      imod (fund_ring (argQ m) (argO m)) $$ HR with HG
      imodintro
      isplitl [HP] <;> iassumption)
    (hglob := glob (argQ m) (argO m))
    (hA := fun _ _ => rfl) (hpf := fun _ k => k.elim0)
    (X := start m) (Y := fun c => iprop(unscopedSems0 c ∗ exts m c)) (Z := fun _ => iprop(emp))
    (hX := start_intro m ρ) (hin := phi0_intro m out) (hout := phi1_exit m out)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨⟨Hu, He⟩, -, HSI⟩
      ihave H := (exts_read m c s') $$ [He HSI]
      · isplitl [He] <;> iassumption
      icases H with ⟨%he, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, he⟩
      iexact HSI)
    (hQ := fun _ h hs => ⟨fun c => ⟨fun w => (h c).1 w, (h c).2.2.2⟩, sem_eq_zero hs fun c => (h c).2.2.1⟩)

end Cert.RingAttn

end
-- ==== Proof.Blocks.lean ====
/-
# `Blocks`: what one device computes, block by block

The run of a device leaves in the result buffer sixteen stores, four for each block of 256 query rows. This module
names the pieces they are made of — one attention head over a window of 512 keys, eight heads projected and added —
and shows that the run's stores are these, whatever the scratch buffers held when the run began.
-/
module

public import proofs.«01_k».proof.Proof.Rest
public import Idealize.ShloMosaic.Lib.Pipeline.FrameBody
public import Idealize.ShloMosaic.Lib.Pipeline.ReadBack

@[expose] public section

noncomputable section

namespace Cert.RingAttn

open Cert.KernelIdeal Cert.KernelIdeal.Gen

open Idealize.ShloMosaic
open Idealize.ShloMosaic.TcCoe
open Idealize.ShloMosaic.ValueIdx

variable {F : FTy → Type} [FloatOps F] [Named F]

/-! ## The windows -/

/-- The first key of the window of the block `b` of query rows. -/
def w0 (b : Fin 4) : ℕ := (![0, 128, 384, 512] : Fin 4 → ℕ) b

/-- How far the block's first row lies beyond its window's first key. -/
def shift (b : Fin 4) : BitVec 32 := (![0#32, 128#32, 128#32, 256#32] : Fin 4 → BitVec 32) b

/-- A block of rows lies within `x`. -/
theorem inb_x : ∀ b : Fin 4, ∀ a, (![0, 256 * b.val, 0] : Fin 3 → ℕ) a + S1x256x1024.size a ≤ S1x1024x1024.size a := by decide +kernel
/-- A head's window of keys lies within the buffer. -/
theorem inb_kv : ∀ (h : Fin 8) (b : Fin 4), ∀ a, (![h.val, w0 b, 0] : Fin 3 → ℕ) a + S1x512x128.size a ≤ S8x1024x128.size a := by decide +kernel
/-- A head's rows lie within a block of `Wo`. -/
theorem inb_wo : ∀ h : Fin 8, ∀ a, (![128 * h.val, 0] : Fin 2 → ℕ) a + S128x1024.size a ≤ S1024x1024.size a := by decide +kernel
/-- A slot lies within the `Wq` buffer. -/
theorem inb_slotQ : ∀ k : Fin 2, ∀ a, (![k.val, 0, 0] : Fin 3 → ℕ) a + S1x1024x1024.size a ≤ S2x1024x1024.size a := by decide +kernel
/-- A head's rows of a slot lie within the `Wo` buffer. -/
theorem inb_slotO : ∀ (k : Fin 3) (h : Fin 8), ∀ a, (![k.val, 128 * h.val, 0] : Fin 3 → ℕ) a + S1x128x1024.size a ≤ S3x1024x1024.size a := by decide +kernel
/-- A head's columns lie within a block of queries. -/
theorem inb_head : ∀ h : Fin 8, S256x1024.Slices ![0, 128 * h.val] S256x128 := by decide +kernel
/-- A head's slab lies within the buffer. -/
theorem inb_slab : ∀ h : Fin 8, ∀ a, (![h.val, 0, 0] : Fin 3 → ℕ) a + S1x1024x128.size a ≤ S8x1024x128.size a := by decide +kernel
/-- A head's rows of one slot have as many elements as a matrix of those rows. -/
theorem casts_wo : S1x128x1024.ShapeCasts S128x1024 := by decide +kernel

/-! ## One head, eight heads -/

/-- The additive mask of a window: zero where the key is at most 128 positions from the row, the mask value elsewhere. -/
def band (off : BitVec 32) : FVec F S256x512 .f32 :=
  select
    (cmpi .sle
      (absi (addi (subi (iota .tc S256x512 32 [0] iota_S256x512_d0_w32) (iota .tc S256x512 32 [1] iota_S256x512_d1_w32)) (broadcast S256x512 off)))
      (broadcast S256x512 128#32))
    (broadcast S256x512 (Scalar.ofBits .f32 0x00000000#32 : F .f32)) (broadcast S256x512 (Named.named κ "mask" 0xCE6E6B28#32 : F .f32))

/-- The scaled queries of 256 rows. -/
def queries (x : Vec F S1x256x1024 .f32) (wq : Vec F S1024x1024 .f32) : FVec F S256x1024 .f32 :=
  mulf (matmul dot_S256x1024_S1024x1024_S256x1024_1_0_0_1_n_n none (shapeCast S256x1024 x shapeCasts_S1x256x1024_S256x1024) wq (constant S256x1024 .f32 0x00000000#32))
    (broadcast S256x1024 (Scalar.ofBits .f32 0x3DB504F3#32 : F .f32))

/-- The exponentials of one head's scores, no maximum subtracted. -/
def expScores (q : FVec F S256x1024 .f32) (bnd : FVec F S256x512 .f32) (h : Fin 8) (k : Vec F S1x512x128 .f32) : FVec F S256x512 .f32 :=
  exp (addf (matmul dot_S256x128_S512x128_S256x512_1_1_0_0_n_n none (extractStridedSlice S256x128 ![0, 128 * h.val] q (inb_head h))
    (shapeCast S512x128 k shapeCasts_S1x512x128_S512x128) (constant S256x512 .f32 0x00000000#32)) bnd)

/-- One head: the exponentials times the values, divided by the exponentials' row sums. -/
def head (q : FVec F S256x1024 .f32) (bnd : FVec F S256x512 .f32) (h : Fin 8) (k v : Vec F S1x512x128 .f32) : FVec F S256x128 .f32 :=
  divf
    (matmul dot_S256x512_S512x128_S256x128_1_0_0_1_n_n none (expScores q bnd h k) (shapeCast S512x128 v shapeCasts_S1x512x128_S512x128) (constant S256x128 .f32 0x00000000#32))
    (broadcastTo S256x128
      (shapeCast S256x1 (multiReduction .add [1] S256 (expScores q bnd h k) 0x00000000#32 reduces_S256x512_S256 (.inl rfl) rfl) shapeCasts_S256_S256x1)
      broadcasts_S256x1_S256x128)

/-- One head's rows of the projection. -/
def proj (c : FVec F S256x128 .f32) (w : FVec F S128x1024 .f32) : FVec F S256x1024 .f32 :=
  matmul dot_S256x128_S128x1024_S256x1024_1_0_0_1_n_n none c w (constant S256x1024 .f32 0x00000000#32)

/-- Eight heads projected, added in order. -/
def projAll (c : Fin 8 → FVec F S256x128 .f32) (w : Fin 8 → FVec F S128x1024 .f32) : FVec F S256x1024 .f32 :=
  addf (addf (addf (addf (addf (addf (addf (proj (c 0) (w 0)) (proj (c 1) (w 1))) (proj (c 2) (w 2))) (proj (c 3) (w 3))) (proj (c 4) (w 4)))
    (proj (c 5) (w 5))) (proj (c 6) (w 6))) (proj (c 7) (w 7))

/-! ## What is read where -/

variable (WQ WO : Dev nD → S1024x1024.Idx → Elt F .f32)
variable (X : Dev nD → S1x1024x1024.Idx → Elt F .f32) (KE VE : Dev nD → S4x1024x32x128.Idx → Elt F .f32)

/-- The block `b` of the staged `x`. -/
def xRows (x : S1x1024x1024.Idx → Elt F .f32) (b : Fin 4) : Vec F S1x256x1024 .f32 :=
  (Memref.whole cc0_stg0_0).view.readAt (Elt F) (Rect.unit (s := S1x1024x1024) ![0, 256 * b.val, 0] S1x256x1024.size (inb_x b)).toLoadRect x

/-- The staged `Wq`, read whole. -/
def wqOwn (W : S1024x1024.Idx → Elt F .f32) : FVec F S1024x1024 .f32 :=
  shapeCast S1024x1024 ((Memref.whole cc0_stg1_0).view.readAt (Elt F) (Rect.unit (s := S1024x1024) ![0, 0] S1024x1024.size inb_S1024x1024_S1024x1024_0_0).toLoadRect W)
    shapeCasts_S1024x1024_S1024x1024

/-- A block of `Wq` in slot `k`. -/
def wqSlot (k : Fin 2) (W : S1024x1024.Idx → Elt F .f32) : FVec F S1024x1024 .f32 :=
  shapeCast S1024x1024 ((Memref.whole cc0_scratch0).view.readAt (Elt F) (Rect.unit (s := S2x1024x1024) ![k.val, 0, 0] S1x1024x1024.size (inb_slotQ k)).toLoadRect (bufQ W))
    shapeCasts_S1x1024x1024_S1024x1024

/-- The rows of head `h` of the staged `Wo`. -/
def woOwn (W : S1024x1024.Idx → Elt F .f32) (h : Fin 8) : FVec F S128x1024 .f32 :=
  shapeCast S128x1024 ((Memref.whole cc0_stg2_0).view.readAt (Elt F) (Rect.unit (s := S1024x1024) ![128 * h.val, 0] S128x1024.size (inb_wo h)).toLoadRect W)
    shapeCasts_S128x1024_S128x1024

/-- The rows of head `h` of a block of `Wo` in slot `k`. -/
def woSlot (k : Fin 3) (W : S1024x1024.Idx → Elt F .f32) (h : Fin 8) : FVec F S128x1024 .f32 :=
  shapeCast S128x1024 ((Memref.whole cc0_scratch1).view.readAt (Elt F) (Rect.unit (s := S3x1024x1024) ![k.val, 128 * h.val, 0] S1x128x1024.size (inb_slotO k h)).toLoadRect (bufO W))
    casts_wo

/-- The window `b` of head `h` of the keys' buffer. -/
def kRows (kb : S8x1024x128.Idx → Elt F .f32) (b : Fin 4) (h : Fin 8) : Vec F S1x512x128 .f32 :=
  (Memref.whole cc0_scratch2).view.readAt (Elt F) (Rect.unit (s := S8x1024x128) ![h.val, w0 b, 0] S1x512x128.size (inb_kv h b)).toLoadRect kb

/-- The window `b` of head `h` of the values' buffer. -/
def vRows (vb : S8x1024x128.Idx → Elt F .f32) (b : Fin 4) (h : Fin 8) : Vec F S1x512x128 .f32 :=
  (Memref.whole cc0_scratch3).view.readAt (Elt F) (Rect.unit (s := S8x1024x128) ![h.val, w0 b, 0] S1x512x128.size (inb_kv h b)).toLoadRect vb

/-- The heads of block `b`, from the block of `Wq` and the buffers of keys and values. -/
def heads (x : S1x1024x1024.Idx → Elt F .f32) (wq : FVec F S1024x1024 .f32) (kb vb : S8x1024x128.Idx → Elt F .f32) (b : Fin 4) (h : Fin 8) : FVec F S256x128 .f32 :=
  head (queries (xRows x b) wq) (band (shift b)) h (kRows kb b h) (vRows vb b h)

/-! ## The buffers of keys and values -/

/-- Head `h`'s slab of the keys' buffer, and of the values'. -/
abbrev slabK (h : Fin 8) : Memref sig .tc .vmem S1024x128 .f32 :=
  ((Memref.whole cc0_scratch2).slice (Rect.unit (s := S8x1024x128) ![h.val, 0, 0] S1x1024x128.size (inb_slab h)) (fun _ => rfl)).squeeze S1024x128 squeezes_S1x1024x128_S1024x128
/-- Head `h`'s slab of the values' buffer. -/
abbrev slabV (h : Fin 8) : Memref sig .tc .vmem S1024x128 .f32 :=
  ((Memref.whole cc0_scratch3).slice (Rect.unit (s := S8x1024x128) ![h.val, 0, 0] S1x1024x128.size (inb_slab h)) (fun _ => rfl)).squeeze S1024x128 squeezes_S1x1024x128_S1024x128

/-- The eight heads of one group in the array of keys, and of values: where head `h` starts is `off h`. -/
abbrev Offs : Type := {off : Fin 8 → Fin 4 → ℕ // ∀ h a, off h a + S1x1024x1x128.size a ≤ S4x1024x32x128.size a}

/-- Head `h` of a group as copied out of the keys, -/
def fromK (off : Offs) (K : S4x1024x32x128.Idx → Elt F .f32) (h : Fin 8) : S1024x128.Idx → Elt F .f32 :=
  ReadAs.same.apply ((((Memref.whole main_arg2).slice (Rect.unit (s := S4x1024x32x128) (off.1 h) S1x1024x1x128.size (off.2 h)) (fun _ => rfl)).squeeze S1024x128 squeezes_S1x1024x1x128_S1024x128).view.read (Elt F) K)
/-- and out of the values. -/
def fromV (off : Offs) (V : S4x1024x32x128.Idx → Elt F .f32) (h : Fin 8) : S1024x128.Idx → Elt F .f32 :=
  ReadAs.same.apply ((((Memref.whole main_arg3).slice (Rect.unit (s := S4x1024x32x128) (off.1 h) S1x1024x1x128.size (off.2 h)) (fun _ => rfl)).squeeze S1024x128 squeezes_S1x1024x1x128_S1024x128).view.read (Elt F) V)

/-- The copy of head `h` into the keys' buffer, and into the values'. -/
def putK (P : Fin 8 → S1024x128.Idx → Elt F .f32) (h : Fin 8) (f : S8x1024x128.Idx → Elt F .f32) : S8x1024x128.Idx → Elt F .f32 :=
  (slabK h).view.write (Elt F) f (P h) Finset.univ
/-- The copy of head `h` into the values' buffer. -/
def putV (P : Fin 8 → S1024x128.Idx → Elt F .f32) (h : Fin 8) (f : S8x1024x128.Idx → Elt F .f32) : S8x1024x128.Idx → Elt F .f32 :=
  (slabV h).view.write (Elt F) f (P h) Finset.univ

/-- The keys' buffer after the eight copies, over what it held, and the values'. -/
def fillK (f : S8x1024x128.Idx → Elt F .f32) (P : Fin 8 → S1024x128.Idx → Elt F .f32) : S8x1024x128.Idx → Elt F .f32 :=
  putK P 7 (putK P 6 (putK P 5 (putK P 4 (putK P 3 (putK P 2 (putK P 1 (putK P 0 f)))))))
/-- The values' buffer after the eight copies, over what it held. -/
def fillV (f : S8x1024x128.Idx → Elt F .f32) (P : Fin 8 → S1024x128.Idx → Elt F .f32) : S8x1024x128.Idx → Elt F .f32 :=
  putV P 7 (putV P 6 (putV P 5 (putV P 4 (putV P 3 (putV P 2 (putV P 1 (putV P 0 f)))))))

/-- Where the four groups a device reads start: its own, its left neighbour's, the one opposite, its right neighbour's. -/
def offOwn (c : Dev nD) : Offs := ⟨fun h => k0_off1 c (BitVec.ofNat 32 h.val), k0_off1_inb c⟩
/-- Where the left neighbour's group starts. -/
def offLeft (c : Dev nD) : Offs := ⟨fun h => k0_off2 c (BitVec.ofNat 32 h.val), k0_off2_inb c⟩
/-- Where the group of the device opposite starts. -/
def offOpp (c : Dev nD) : Offs := ⟨fun h => k0_off3 c 2#32 (BitVec.ofNat 32 h.val), k0_off3_inb c 1⟩
/-- Where the right neighbour's group starts. -/
def offRight (c : Dev nD) : Offs := ⟨fun h => k0_off3 c 1#32 (BitVec.ofNat 32 h.val), k0_off3_inb c 0⟩

/-- The keys' buffer, and the values', while each of the four groups is computed. -/
def kb1 (c : Dev nD) (kb0 : S8x1024x128.Idx → Elt F .f32) := fillK kb0 (fromK (offOwn c) (KE c))
/-- The keys' buffer while the second group is computed. -/
def kb2 (c : Dev nD) (kb0 : S8x1024x128.Idx → Elt F .f32) := fillK (kb1 KE c kb0) (fromK (offLeft c) (KE c))
/-- The keys' buffer while the third group is computed. -/
def kb3 (c : Dev nD) (kb0 : S8x1024x128.Idx → Elt F .f32) := fillK (kb2 KE c kb0) (fromK (offOpp c) (KE c))
/-- The keys' buffer while the fourth group is computed. -/
def kb4 (c : Dev nD) (kb0 : S8x1024x128.Idx → Elt F .f32) := fillK (kb3 KE c kb0) (fromK (offRight c) (KE c))
/-- The values' buffer while the first group is computed. -/
def vb1 (c : Dev nD) (vb0 : S8x1024x128.Idx → Elt F .f32) := fillV vb0 (fromV (offOwn c) (VE c))
/-- The values' buffer while the second group is computed. -/
def vb2 (c : Dev nD) (vb0 : S8x1024x128.Idx → Elt F .f32) := fillV (vb1 VE c vb0) (fromV (offLeft c) (VE c))
/-- The values' buffer while the third group is computed. -/
def vb3 (c : Dev nD) (vb0 : S8x1024x128.Idx → Elt F .f32) := fillV (vb2 VE c vb0) (fromV (offOpp c) (VE c))
/-- The values' buffer while the fourth group is computed. -/
def vb4 (c : Dev nD) (vb0 : S8x1024x128.Idx → Elt F .f32) := fillV (vb3 VE c vb0) (fromV (offRight c) (VE c))

/-! ## The four groups of heads -/

variable (c : Dev nD) (kb0 vb0 : S8x1024x128.Idx → Elt F .f32)

/-- The own group's rows of block `b`. -/
def own (kb vb : S8x1024x128.Idx → Elt F .f32) (b : Fin 4) : FVec F S256x1024 .f32 := projAll (heads (X c) (wqOwn (WQ c)) kb vb b) (woOwn (WO c))
/-- The left neighbour's heads, kept for later. -/
def kept (kb vb : S8x1024x128.Idx → Elt F .f32) (b : Fin 4) (h : Fin 8) : FVec F S256x128 .f32 := heads (X c) (wqSlot 0 (WQ (prv c))) kb vb b h
/-- The opposite group's rows. -/
def opp (kb vb : S8x1024x128.Idx → Elt F .f32) (b : Fin 4) : FVec F S256x1024 .f32 := projAll (heads (X c) (wqSlot 1 (WQ (prv (prv c)))) kb vb b) (woSlot 1 (WO (nxt (nxt c))))
/-- The right neighbour's rows. -/
def right (kb vb : S8x1024x128.Idx → Elt F .f32) (b : Fin 4) : FVec F S256x1024 .f32 := projAll (heads (X c) (wqSlot 0 (WQ (prv (prv (prv c))))) kb vb b) (woSlot 0 (WO (nxt c)))

/-- The block `b` of rows of the result buffer. -/
abbrev rowsRect (b : Fin 4) : Rect S1x1024x1024 := Rect.unit (s := S1x1024x1024) ![0, 256 * b.val, 0] S1x256x1024.size (inb_x b)
/-- The place of a block of rows and a head lies within the buffer of kept heads. -/
theorem inb_kept : ∀ (b : Fin 4) (h : Fin 8), ∀ a, (![256 * b.val, 128 * h.val] : Fin 2 → ℕ) a + S256x128.size a ≤ S1024x1024.size a := by decide +kernel
/-- The block of rows `b` and head `h` of the buffer of kept heads. -/
abbrev keptRect (b : Fin 4) (h : Fin 8) : Rect S1024x1024 := Rect.unit (s := S1024x1024) ![256 * b.val, 128 * h.val] S256x128.size (inb_kept b h)

/-- The stores of one group's rows into the result buffer, the latest first. -/
abbrev storesOf (y : Fin 4 → FVec F S256x1024 .f32) (L : List (View.Piece (Elt F) S1x1024x1024 .f32)) : List (View.Piece (Elt F) S1x1024x1024 .f32) :=
  ⟨rowsRect 3, shapeCast S1x256x1024 (y 3) shapeCasts_S256x1024_S1x256x1024⟩ :: ⟨rowsRect 2, shapeCast S1x256x1024 (y 2) shapeCasts_S256x1024_S1x256x1024⟩
    :: ⟨rowsRect 1, shapeCast S1x256x1024 (y 1) shapeCasts_S256x1024_S1x256x1024⟩ :: ⟨rowsRect 0, shapeCast S1x256x1024 (y 0) shapeCasts_S256x1024_S1x256x1024⟩ :: L

/-- What a load of the block `b` of rows finds after the stores `L`. -/
def outRows [∀ e, Nonempty (Elt F e)] (L : List (View.Piece (Elt F) S1x1024x1024 .f32)) (b : Fin 4) : FVec F S256x1024 .f32 :=
  shapeCast S256x1024 ((Memref.whole cc0_stg3_0).view.readCov L (rowsRect b).toLoadRect) shapeCasts_S1x256x1024_S256x1024

/-- A block of rows loaded, increased by `z b` and stored back. -/
def addRows [∀ e, Nonempty (Elt F e)] (z : Fin 4 → FVec F S256x1024 .f32) (b : Fin 4) (L : List (View.Piece (Elt F) S1x1024x1024 .f32)) :
    List (View.Piece (Elt F) S1x1024x1024 .f32) :=
  ⟨rowsRect b, shapeCast S1x256x1024 (addf (outRows L b) (z b)) shapeCasts_S256x1024_S1x256x1024⟩ :: L

/-- Each block of rows so increased, one after the other. -/
def addStores [∀ e, Nonempty (Elt F e)] (L : List (View.Piece (Elt F) S1x1024x1024 .f32)) (z : Fin 4 → FVec F S256x1024 .f32) : List (View.Piece (Elt F) S1x1024x1024 .f32) :=
  addRows z 3 (addRows z 2 (addRows z 1 (addRows z 0 L)))

/-- The stores of the kept heads of one block of rows. -/
abbrev rowKept (y : Fin 8 → FVec F S256x128 .f32) (b : Fin 4) (L : List (View.Piece (Elt F) S1024x1024 .f32)) : List (View.Piece (Elt F) S1024x1024 .f32) :=
  let put (h : Fin 8) (L : List (View.Piece (Elt F) S1024x1024 .f32)) : List (View.Piece (Elt F) S1024x1024 .f32) :=
    ⟨keptRect b h, shapeCast S256x128 (y h) shapeCasts_S256x128_S256x128⟩ :: L
  put 7 (put 6 (put 5 (put 4 (put 3 (put 2 (put 1 (put 0 L)))))))

/-- All stores of kept heads, the latest first. -/
abbrev keptStores (y : Fin 4 → Fin 8 → FVec F S256x128 .f32) : List (View.Piece (Elt F) S1024x1024 .f32) :=
  rowKept (y 3) 3 (rowKept (y 2) 2 (rowKept (y 1) 1 (rowKept (y 0) 0 [])))

/-- What a load of a kept head finds after the stores `L`. -/
def keptRead [∀ e, Nonempty (Elt F e)] (L : List (View.Piece (Elt F) S1024x1024 .f32)) (b : Fin 4) (h : Fin 8) : FVec F S256x128 .f32 :=
  (Memref.whole cc0_scratch4).view.readCov L (keptRect b h).toLoadRect

/-- The own group's four stores. -/
theorem stores_own [∀ e, Nonempty (Elt F e)] :
    s₃.sl.Hout_4 WQ WO X KE VE c kb0 vb0 = storesOf (own WQ WO X c (kb1 KE c kb0) (vb1 VE c vb0)) [] := rfl

/-- The opposite group's four stores. -/
theorem stores_opp [∀ e, Nonempty (Elt F e)] :
    (⟨rowsRect 3, s₆.sl.v2523 WQ WO X KE VE c kb0 vb0⟩ :: s₆.sl.Hout_7 WQ WO X KE VE c kb0 vb0 : List (View.Piece (Elt F) S1x1024x1024 .f32))
      = addStores (s₃.sl.Hout_4 WQ WO X KE VE c kb0 vb0) (opp WQ WO X c (kb3 KE c kb0) (vb3 VE c vb0)) := by
  have h0 : s₆.sl.Hout_5 WQ WO X KE VE c kb0 vb0 = addRows (opp WQ WO X c (kb3 KE c kb0) (vb3 VE c vb0)) 0 (s₃.sl.Hout_4 WQ WO X KE VE c kb0 vb0) := rfl
  have h1 : s₆.sl.Hout_6 WQ WO X KE VE c kb0 vb0 = addRows (opp WQ WO X c (kb3 KE c kb0) (vb3 VE c vb0)) 1 (s₆.sl.Hout_5 WQ WO X KE VE c kb0 vb0) := rfl
  have h2 : s₆.sl.Hout_7 WQ WO X KE VE c kb0 vb0 = addRows (opp WQ WO X c (kb3 KE c kb0) (vb3 VE c vb0)) 2 (s₆.sl.Hout_6 WQ WO X KE VE c kb0 vb0) := rfl
  have h3 : (⟨rowsRect 3, s₆.sl.v2523 WQ WO X KE VE c kb0 vb0⟩ :: s₆.sl.Hout_7 WQ WO X KE VE c kb0 vb0 : List (View.Piece (Elt F) S1x1024x1024 .f32))
      = addRows (opp WQ WO X c (kb3 KE c kb0) (vb3 VE c vb0)) 3 (s₆.sl.Hout_7 WQ WO X KE VE c kb0 vb0) := rfl
  rw [h3, h2, h1, h0, addStores]

/-- The right neighbour's four stores. -/
theorem stores_right [∀ e, Nonempty (Elt F e)] :
    s₇.sl.Hout_12 WQ WO X KE VE c kb0 vb0
      = addStores (⟨rowsRect 3, s₆.sl.v2523 WQ WO X KE VE c kb0 vb0⟩ :: s₆.sl.Hout_7 WQ WO X KE VE c kb0 vb0)
          (right WQ WO X c (kb4 KE c kb0) (vb4 VE c vb0)) := by
  have h0 : s₇.sl.Hout_9 WQ WO X KE VE c kb0 vb0 = addRows (right WQ WO X c (kb4 KE c kb0) (vb4 VE c vb0)) 0
      (⟨rowsRect 3, s₆.sl.v2523 WQ WO X KE VE c kb0 vb0⟩ :: s₆.sl.Hout_7 WQ WO X KE VE c kb0 vb0) := rfl
  have h1 : s₇.sl.Hout_10 WQ WO X KE VE c kb0 vb0 = addRows (right WQ WO X c (kb4 KE c kb0) (vb4 VE c vb0)) 1 (s₇.sl.Hout_9 WQ WO X KE VE c kb0 vb0) := rfl
  have h2 : s₇.sl.Hout_11 WQ WO X KE VE c kb0 vb0 = addRows (right WQ WO X c (kb4 KE c kb0) (vb4 VE c vb0)) 2 (s₇.sl.Hout_10 WQ WO X KE VE c kb0 vb0) := rfl
  have h3 : s₇.sl.Hout_12 WQ WO X KE VE c kb0 vb0 = addRows (right WQ WO X c (kb4 KE c kb0) (vb4 VE c vb0)) 3 (s₇.sl.Hout_11 WQ WO X KE VE c kb0 vb0) := rfl
  rw [h3, h2, h1, h0, addStores]

/-- The stores of kept heads. -/
theorem stores_kept [∀ e, Nonempty (Elt F e)] :
    (⟨keptRect 3 7, s₄.sl.v1661 WQ X KE VE c kb0 vb0⟩ :: ⟨keptRect 3 6, s₄.sl.v1645 WQ X KE VE c kb0 vb0⟩ :: s₄.sl.Hst_30 WQ X KE VE c kb0 vb0
        : List (View.Piece (Elt F) S1024x1024 .f32))
      = keptStores (kept WQ X c (kb2 KE c kb0) (vb2 VE c vb0)) := rfl

/-- The rows of the kept heads, projected, as they are read back. -/
abbrev keptRows [∀ e, Nonempty (Elt F e)] (b : Fin 4) : FVec F S256x1024 .f32 :=
  projAll (keptRead (⟨keptRect 3 7, s₄.sl.v1661 WQ X KE VE c kb0 vb0⟩ :: ⟨keptRect 3 6, s₄.sl.v1645 WQ X KE VE c kb0 vb0⟩ :: s₄.sl.Hst_30 WQ X KE VE c kb0 vb0) b)
    (woSlot 2 (WO (nxt (nxt (nxt c)))))

/-- The last four stores: the kept heads projected. -/
theorem stores_last [∀ e, Nonempty (Elt F e)] :
    (⟨rowsRect 3, s₇.sl.v3535 WQ WO X KE VE c kb0 vb0⟩ :: s₇.sl.Hout_15 WQ WO X KE VE c kb0 vb0 : List (View.Piece (Elt F) S1x1024x1024 .f32))
      = addStores (s₇.sl.Hout_12 WQ WO X KE VE c kb0 vb0) (keptRows WQ WO X KE VE c kb0 vb0) := by
  have h0 : s₇.sl.Hout_13 WQ WO X KE VE c kb0 vb0 = addRows (keptRows WQ WO X KE VE c kb0 vb0) 0 (s₇.sl.Hout_12 WQ WO X KE VE c kb0 vb0) := rfl
  have h1 : s₇.sl.Hout_14 WQ WO X KE VE c kb0 vb0 = addRows (keptRows WQ WO X KE VE c kb0 vb0) 1 (s₇.sl.Hout_13 WQ WO X KE VE c kb0 vb0) := rfl
  have h2 : s₇.sl.Hout_15 WQ WO X KE VE c kb0 vb0 = addRows (keptRows WQ WO X KE VE c kb0 vb0) 2 (s₇.sl.Hout_14 WQ WO X KE VE c kb0 vb0) := rfl
  have h3 : (⟨rowsRect 3, s₇.sl.v3535 WQ WO X KE VE c kb0 vb0⟩ :: s₇.sl.Hout_15 WQ WO X KE VE c kb0 vb0 : List (View.Piece (Elt F) S1x1024x1024 .f32))
      = addRows (keptRows WQ WO X KE VE c kb0 vb0) 3 (s₇.sl.Hout_15 WQ WO X KE VE c kb0 vb0) := rfl
  rw [h3, h2, h1, h0, addStores]

/-! ## The stores, resolved -/

/-- Different blocks of rows do not meet. -/
theorem rows_disj : ∀ b b' : Fin 4, b' ≠ b → LoadRect.disj (rowsRect b') (rowsRect b).toLoadRect = true := by decide +kernel
/-- Different places of the buffer of kept heads do not meet. -/
theorem kept_disj : ∀ (b b' : Fin 4) (h h' : Fin 8), (b' ≠ b ∨ h' ≠ h) → LoadRect.disj (keptRect b' h') (keptRect b h).toLoadRect = true := by decide +kernel

/-- A cast to another shape and back. -/
theorem outRows_self [∀ e, Nonempty (Elt F e)] (y : FVec F S256x1024 .f32) (L : List (View.Piece (Elt F) S1x1024x1024 .f32)) (b : Fin 4) :
    outRows (⟨rowsRect b, shapeCast S1x256x1024 y shapeCasts_S256x1024_S1x256x1024⟩ :: L) b = y := by
  unfold outRows
  rw [View.readCov_cons_toLoadRect]
  exact shapeCast_shapeCast y shapeCasts_S256x1024_S1x256x1024 shapeCasts_S1x256x1024_S256x1024

/-- A store into another block of rows leaves block `b` as it was. -/
theorem outRows_ne [∀ e, Nonempty (Elt F e)] {b b' : Fin 4} (hb : b' ≠ b) (w : (rowsRect b').shape.Idx → Elt F .f32) (L : List (View.Piece (Elt F) S1x1024x1024 .f32)) :
    outRows (⟨rowsRect b', w⟩ :: L) b = outRows L b := by
  unfold outRows
  rw [View.readCov_skip _ _ _ _ _ (rows_disj b b' hb)]

/-- Increasing a block of rows leaves the others as they were. -/
theorem outRows_addRows [∀ e, Nonempty (Elt F e)] {b b' : Fin 4} (hb : b' ≠ b) (z : Fin 4 → FVec F S256x1024 .f32) (L : List (View.Piece (Elt F) S1x1024x1024 .f32)) :
    outRows (addRows z b' L) b = outRows L b := outRows_ne hb _ L

/-- After four stores, each block of rows reads as stored. -/
theorem outRows_storesOf [∀ e, Nonempty (Elt F e)] (y : Fin 4 → FVec F S256x1024 .f32) (L : List (View.Piece (Elt F) S1x1024x1024 .f32)) :
    ∀ b : Fin 4, outRows (storesOf y L) b = y b
  | 3 => outRows_self _ _ 3
  | 2 => (outRows_ne (by decide) _ _).trans (outRows_self _ _ 2)
  | 1 => (outRows_ne (by decide) _ _).trans ((outRows_ne (by decide) _ _).trans (outRows_self _ _ 1))
  | 0 => (outRows_ne (by decide) _ _).trans ((outRows_ne (by decide) _ _).trans ((outRows_ne (by decide) _ _).trans (outRows_self _ _ 0)))

/-- Increasing each block of rows of four full stores. -/
theorem addStores_storesOf [∀ e, Nonempty (Elt F e)] (y z : Fin 4 → FVec F S256x1024 .f32) (L : List (View.Piece (Elt F) S1x1024x1024 .f32)) :
    addStores (storesOf y L) z = storesOf (fun b => addf (y b) (z b)) (storesOf y L) := by
  have e0 := outRows_storesOf y L 0
  have e1 := (outRows_addRows (b := 1) (b' := 0) (by decide) z (storesOf y L)).trans (outRows_storesOf y L 1)
  have e2 := (outRows_addRows (b := 2) (b' := 1) (by decide) z (addRows z 0 (storesOf y L))).trans
    ((outRows_addRows (b' := 0) (by decide) z _).trans (outRows_storesOf y L 2))
  have e3 := (outRows_addRows (b := 3) (b' := 2) (by decide) z (addRows z 1 (addRows z 0 (storesOf y L)))).trans
    ((outRows_addRows (b' := 1) (by decide) z _).trans ((outRows_addRows (b' := 0) (by decide) z _).trans (outRows_storesOf y L 3)))
  unfold addStores
  rw [addRows, e3, addRows, e2, addRows, e1, addRows, e0]

/-- What was last stored at a place of the buffer of kept heads is read there. -/
theorem keptRead_self [∀ e, Nonempty (Elt F e)] (y : FVec F S256x128 .f32) (L : List (View.Piece (Elt F) S1024x1024 .f32)) (b : Fin 4) (h : Fin 8) :
    keptRead (⟨keptRect b h, shapeCast S256x128 y shapeCasts_S256x128_S256x128⟩ :: L) b h = y := by
  unfold keptRead
  rw [View.readCov_cons_toLoadRect]
  exact shapeCast_self y shapeCasts_S256x128_S256x128

/-- A store at another place leaves the place of `b` and `h` as it was. -/
theorem keptRead_ne [∀ e, Nonempty (Elt F e)] {b b' : Fin 4} {h h' : Fin 8} (hb : b' ≠ b ∨ h' ≠ h) (w : (keptRect b' h').shape.Idx → Elt F .f32)
    (L : List (View.Piece (Elt F) S1024x1024 .f32)) : keptRead (⟨keptRect b' h', w⟩ :: L) b h = keptRead L b h := by
  unfold keptRead
  rw [View.readCov_skip _ _ _ _ _ (kept_disj b b' h h' hb)]

/-- A kept head of another block of rows. -/
theorem keptRead_row_ne [∀ e, Nonempty (Elt F e)] {b b' : Fin 4} (hb : b' ≠ b) (y : Fin 8 → FVec F S256x128 .f32) (L : List (View.Piece (Elt F) S1024x1024 .f32)) (h : Fin 8) :
    keptRead (rowKept y b' L) b h = keptRead L b h := by
  simp only [rowKept, keptRead_ne (Or.inl hb)]

/-- A kept head of the same block. -/
theorem keptRead_row_self [∀ e, Nonempty (Elt F e)] (y : Fin 8 → FVec F S256x128 .f32) (L : List (View.Piece (Elt F) S1024x1024 .f32)) (b : Fin 4) :
    ∀ h : Fin 8, keptRead (rowKept y b L) b h = y h := by
  intro h
  simp only [rowKept]
  fin_cases h <;> (repeat rw [keptRead_ne (Or.inr (by decide))]) <;> exact keptRead_self _ _ _ _

/-- A kept head, read after all of them are stored. -/
theorem keptRead_stores [∀ e, Nonempty (Elt F e)] (y : Fin 4 → Fin 8 → FVec F S256x128 .f32) : ∀ (b : Fin 4) (h : Fin 8), keptRead (keptStores y) b h = y b h
  | 3, h => keptRead_row_self _ _ 3 h
  | 2, h => (keptRead_row_ne (by decide) _ _ h).trans (keptRead_row_self _ _ 2 h)
  | 1, h => (keptRead_row_ne (by decide) _ _ h).trans ((keptRead_row_ne (by decide) _ _ h).trans (keptRead_row_self _ _ 1 h))
  | 0, h => (keptRead_row_ne (by decide) _ _ h).trans ((keptRead_row_ne (by decide) _ _ h).trans ((keptRead_row_ne (by decide) _ _ h).trans (keptRead_row_self _ _ 0 h)))

/-- The rows a block ends with: the four groups' rows added, in the order the device adds them. -/
def total (kb0 vb0 : S8x1024x128.Idx → Elt F .f32) (b : Fin 4) : FVec F S256x1024 .f32 :=
  addf (addf (addf (own WQ WO X c (kb1 KE c kb0) (vb1 VE c vb0) b) (opp WQ WO X c (kb3 KE c kb0) (vb3 VE c vb0) b))
    (right WQ WO X c (kb4 KE c kb0) (vb4 VE c vb0) b)) (projAll (kept WQ X c (kb2 KE c kb0) (vb2 VE c vb0) b) (woSlot 2 (WO (nxt (nxt (nxt c))))))

/-- The run's stores end with the totals, one for each block of rows. -/
theorem stores_total [∀ e, Nonempty (Elt F e)] :
    ∃ L, (⟨rowsRect 3, s₇.sl.v3535 WQ WO X KE VE c kb0 vb0⟩ :: s₇.sl.Hout_15 WQ WO X KE VE c kb0 vb0 : List (View.Piece (Elt F) S1x1024x1024 .f32))
      = storesOf (total WQ WO X KE VE c kb0 vb0) L := by
  have hk : keptRows WQ WO X KE VE c kb0 vb0 = fun b => projAll (kept WQ X c (kb2 KE c kb0) (vb2 VE c vb0) b) (woSlot 2 (WO (nxt (nxt (nxt c))))) := by
    funext b
    unfold keptRows
    rw [stores_kept]
    exact congrArg (projAll · _) (funext fun h => keptRead_stores _ b h)
  have h := stores_last WQ WO X KE VE c kb0 vb0
  rw [hk, stores_right, stores_opp, stores_own, addStores_storesOf, addStores_storesOf, addStores_storesOf] at h
  exact ⟨_, h⟩

/-! ## The scratch buffers hold nothing older than the copies -/

/-- A buffer of eight slabs, slab by slab. -/
def slabs (P : Fin 8 → S1024x128.Idx → Elt F .f32) : S8x1024x128.Idx → Elt F .f32 := fun i => P (i 0) (ix2 (i 1) (i 2))

/-- The slab `h` of a buffer of eight: its elements are those with first coordinate `h`. -/
theorem mem_slab (h : Fin 8) (inb) (i : S8x1024x128.Idx) :
    i ∈ (Rect.unit (s := S8x1024x128) ![h.val, 0, 0] S1x1024x128.size inb).set ↔ (i 0).val = h.val := by
  rw [Rect.mem_set_unit]
  refine ⟨fun hi => ?_, fun hi a => ?_⟩
  · have h0 : h.val ≤ (i 0).val ∧ (i 0).val < h.val + 1 := hi 0
    omega
  · match a with
    | ⟨0, _⟩ => exact ⟨by show h.val ≤ (i 0).val; omega, by show (i 0).val < h.val + 1; omega⟩
    | ⟨1, _⟩ => exact ⟨Nat.zero_le _, by show (i 1).val < 0 + 1024; rw [Nat.zero_add]; exact (i 1).isLt⟩
    | ⟨2, _⟩ => exact ⟨Nat.zero_le _, by show (i 2).val < 0 + 128; rw [Nat.zero_add]; exact (i 2).isLt⟩

/-- The position of a slab's element in the slab's one-head stack. -/
theorem slab_idx (hn) (i : S1024x128.Idx) :
    Shape.reshapeEquiv (s := S1x1024x128) (s' := S1024x128) hn i = ix3 0 (i 0) (i 1) := by
  obtain ⟨x, y, rfl⟩ : ∃ (x : Fin 1024) (y : Fin 128), i = ix2 x y := ⟨i 0, i 1, eq_ix2 i⟩
  exact reshapeEquiv_ix2_1ab hn x y

/-- A buffer of slabs read at one of them. -/
theorem read_slabs (h : Fin 8) (inb) (hn) (P : Fin 8 → S1024x128.Idx → Elt F .f32) (i : S1024x128.Idx) :
    slabs P ((Rect.unit (s := S8x1024x128) ![h.val, 0, 0] S1x1024x128.size inb).emb (Shape.reshapeEquiv (s := S1x1024x128) (s' := S1024x128) hn i)) = P h i := by
  rw [slab_idx]
  unfold slabs
  congr 1
  funext a
  match a with
  | ⟨0, _⟩ => exact Fin.ext (by show 0 + 1 * (i 0).val = (i 0).val; omega)
  | ⟨1, _⟩ => exact Fin.ext (by show 0 + 1 * (i 1).val = (i 1).val; omega)

/-- Head `h`'s slab of the keys' buffer reads as the slab put there, -/
theorem read_slabK (h : Fin 8) (P : Fin 8 → S1024x128.Idx → Elt F .f32) : (slabK h).view.read (Elt F) (slabs P) = P h := funext fun i => read_slabs h _ _ P i
/-- and so does the values'. -/
theorem read_slabV (h : Fin 8) (P : Fin 8 → S1024x128.Idx → Elt F .f32) : (slabV h).view.read (Elt F) (slabs P) = P h := funext fun i => read_slabs h _ _ P i
/-- An element lies in head `h`'s slab of the keys' buffer exactly when its first coordinate is `h`, -/
theorem mem_slabK (h : Fin 8) (i : S8x1024x128.Idx) : i ∈ (slabK h).view.set ↔ (i 0).val = h.val := by
  rw [show (slabK h).view.set = _ from (View.set_reshape _ _).trans (View.set_slice_whole _ _)]; exact mem_slab h _ i
/-- and so for the values'. -/
theorem mem_slabV (h : Fin 8) (i : S8x1024x128.Idx) : i ∈ (slabV h).view.set ↔ (i 0).val = h.val := by
  rw [show (slabV h).view.set = _ from (View.set_reshape _ _).trans (View.set_slice_whole _ _)]; exact mem_slab h _ i

/-- A copy into a slab leaves there what a full buffer of slabs has there, and elsewhere what was there. -/
theorem putK_apply (P : Fin 8 → S1024x128.Idx → Elt F .f32) (h : Fin 8) (f : S8x1024x128.Idx → Elt F .f32) (i : S8x1024x128.Idx) :
    putK P h f i = if (i 0).val = h.val then slabs P i else f i := by
  unfold putK
  conv_lhs => rw [← read_slabK h P, View.write_read_eq_piecewise]
  by_cases hi : (i 0).val = h.val
  · rw [if_pos hi]; exact Finset.piecewise_eq_of_mem _ _ _ ((mem_slabK h i).2 hi)
  · rw [if_neg hi]; exact Finset.piecewise_eq_of_notMem _ _ _ fun hm => hi ((mem_slabK h i).1 hm)
/-- The values' buffer after head `h` is put: the head's slab replaced, the rest as it was. -/
theorem putV_apply (P : Fin 8 → S1024x128.Idx → Elt F .f32) (h : Fin 8) (f : S8x1024x128.Idx → Elt F .f32) (i : S8x1024x128.Idx) :
    putV P h f i = if (i 0).val = h.val then slabs P i else f i := by
  unfold putV
  conv_lhs => rw [← read_slabV h P, View.write_read_eq_piecewise]
  by_cases hi : (i 0).val = h.val
  · rw [if_pos hi]; exact Finset.piecewise_eq_of_mem _ _ _ ((mem_slabV h i).2 hi)
  · rw [if_neg hi]; exact Finset.piecewise_eq_of_notMem _ _ _ fun hm => hi ((mem_slabV h i).1 hm)

/-- After the eight copies nothing of what the buffer held is left. -/
theorem fillK_eq (f : S8x1024x128.Idx → Elt F .f32) (P : Fin 8 → S1024x128.Idx → Elt F .f32) : fillK f P = slabs P := by
  funext i
  have hi : (i 0).val < 8 := (i 0).isLt
  unfold fillK
  simp only [putK_apply, show ((7 : Fin 8) : ℕ) = 7 from rfl, show ((6 : Fin 8) : ℕ) = 6 from rfl, show ((5 : Fin 8) : ℕ) = 5 from rfl, show ((4 : Fin 8) : ℕ) = 4 from rfl,
    show ((3 : Fin 8) : ℕ) = 3 from rfl, show ((2 : Fin 8) : ℕ) = 2 from rfl, show ((1 : Fin 8) : ℕ) = 1 from rfl, show ((0 : Fin 8) : ℕ) = 0 from rfl]
  repeat' split
  all_goals first | rfl | omega
/-- After the eight copies the values' buffer is the eight slabs, whatever it held before. -/
theorem fillV_eq (f : S8x1024x128.Idx → Elt F .f32) (P : Fin 8 → S1024x128.Idx → Elt F .f32) : fillV f P = slabs P := by
  funext i
  have hi : (i 0).val < 8 := (i 0).isLt
  unfold fillV
  simp only [putV_apply, show ((7 : Fin 8) : ℕ) = 7 from rfl, show ((6 : Fin 8) : ℕ) = 6 from rfl, show ((5 : Fin 8) : ℕ) = 5 from rfl, show ((4 : Fin 8) : ℕ) = 4 from rfl,
    show ((3 : Fin 8) : ℕ) = 3 from rfl, show ((2 : Fin 8) : ℕ) = 2 from rfl, show ((1 : Fin 8) : ℕ) = 1 from rfl, show ((0 : Fin 8) : ℕ) = 0 from rfl]
  repeat' split
  all_goals first | rfl | omega

/-! ## What the run leaves -/

/-- The rows of the block `b` on device `c`, of the arguments alone. -/
def rowsOf (b : Fin 4) : FVec F S256x1024 .f32 :=
  addf (addf (addf
    (own WQ WO X c (slabs (fromK (offOwn c) (KE c))) (slabs (fromV (offOwn c) (VE c))) b)
    (opp WQ WO X c (slabs (fromK (offOpp c) (KE c))) (slabs (fromV (offOpp c) (VE c))) b))
    (right WQ WO X c (slabs (fromK (offRight c) (KE c))) (slabs (fromV (offRight c) (VE c))) b))
    (projAll (kept WQ X c (slabs (fromK (offLeft c) (KE c))) (slabs (fromV (offLeft c) (VE c))) b) (woSlot 2 (WO (nxt (nxt (nxt c))))))

/-- A block of rows of the result does not depend on what the buffers held at the start. -/
theorem total_eq (b : Fin 4) : total WQ WO X KE VE c kb0 vb0 b = rowsOf WQ WO X KE VE c b := by
  unfold total rowsOf kb4 kb3 kb2 kb1 vb4 vb3 vb2 vb1
  simp only [fillK_eq, fillV_eq]

/-- The block of rows an element of the result lies in, and its place there. -/
def blockOf (i : S1x1024x1024.Idx) : Fin 4 := ⟨(i 1).val / 256, by have h : (i 1).val < 1024 := (i 1).isLt; omega⟩
/-- The place of an element in its block of rows. -/
def placeOf (i : S1x1024x1024.Idx) : S256x1024.Idx := ix2 ⟨(i 1).val % 256, Nat.mod_lt _ (by decide)⟩ (i 2)

/-- The result of device `c`, of the arguments alone. -/
def resultOf : S1x1024x1024.Idx → Elt F .f32 := fun i => rowsOf WQ WO X KE VE c (blockOf i) (placeOf i)

/-- The position of a block's element in the block's one-batch stack. -/
theorem row_idx (hn) (j : S256x1024.Idx) :
    Shape.reshapeEquiv (s := S1x256x1024) (s' := S256x1024) hn j = ix3 (⟨0, Nat.one_pos⟩ : Fin 1) (j 0) (j 1) := by
  obtain ⟨x, y, rfl⟩ : ∃ (x : Fin 256) (y : Fin 1024), j = ix2 x y := ⟨j 0, j 1, eq_ix2 j⟩
  exact reshapeEquiv_ix2_1ab hn x y

/-- An element is found at its place in its block of rows. -/
theorem place_emb (i : S1x1024x1024.Idx) (hn) :
    (rowsRect (blockOf i)).toLoadRect.idx (Shape.reshapeEquiv (s := S1x256x1024) (s' := S256x1024) hn (placeOf i)) = i := by
  rw [row_idx]
  funext a
  have h0 : (i 0).val < 1 := (i 0).isLt
  match a with
  | ⟨0, _⟩ => exact Fin.ext (by show 0 + 1 * 0 = (i 0).val; omega)
  | ⟨1, _⟩ => exact Fin.ext (by show 256 * ((i 1).val / 256) + 1 * ((i 1).val % 256) = (i 1).val; omega)
  | ⟨2, _⟩ => exact Fin.ext (by show 0 + 1 * (i 2).val = (i 2).val; omega)

/-- Every element lies in one of four full stores. -/
theorem stores_cover (y : Fin 4 → FVec F S256x1024 .f32) (L : List (View.Piece (Elt F) S1x1024x1024 .f32)) (i : S1x1024x1024.Idx) :
    ∃ p ∈ storesOf y L, i ∈ p.1.set := by
  have hn : S256x1024.numel = S1x256x1024.numel := by decide
  have h : ∀ b : Fin 4, ∃ p ∈ storesOf y L, p.1 = rowsRect b := fun
    | 0 => ⟨_, .tail _ (.tail _ (.tail _ (.head _))), rfl⟩
    | 1 => ⟨_, .tail _ (.tail _ (.head _)), rfl⟩
    | 2 => ⟨_, .tail _ (.head _), rfl⟩
    | 3 => ⟨_, .head _, rfl⟩
  obtain ⟨p, hp, hr⟩ := h (blockOf i)
  refine ⟨p, hp, ?_⟩
  rw [hr]
  have h := (rowsRect (blockOf i)).toLoadRect.idx_mem (Shape.reshapeEquiv (s := S1x256x1024) (s' := S256x1024) hn (placeOf i))
  rw [place_emb] at h
  exact h

/-- An element of the rows read back, of any covering stores, is what the stores left there. -/
theorem writes_apply [∀ e, Nonempty (Elt F e)] (f : S1x1024x1024.Idx → Elt F .f32) (L : List (View.Piece (Elt F) S1x1024x1024 .f32)) (i : S1x1024x1024.Idx)
    (h : ∃ p ∈ L, i ∈ p.1.set) : (Memref.whole cc0_stg3_0).view.writes (Elt F) f L i = outRows L (blockOf i) (placeOf i) := by
  have hc : (Memref.whole cc0_stg3_0).view.read (Elt F) ((Memref.whole cc0_stg3_0).view.writes (Elt F) f L) i
      = View.canon L i := View.read_writes_apply_eq_canon _ _ _ _ h
  have ho : outRows L (blockOf i) (placeOf i)
      = View.canon L ((rowsRect (blockOf i)).toLoadRect.idx (Shape.reshapeEquiv (s := S1x256x1024) (s' := S256x1024) shapeCasts_S1x256x1024_S256x1024 (placeOf i))) := by
    unfold outRows
    rw [View.readCov_eq_canon']
    rfl
  rw [ho, place_emb]
  exact hc

/-- Four full stores leave each element at what was stored for it. -/
theorem writes_storesOf [∀ e, Nonempty (Elt F e)] (f : S1x1024x1024.Idx → Elt F .f32) (y : Fin 4 → FVec F S256x1024 .f32)
    (L : List (View.Piece (Elt F) S1x1024x1024 .f32)) :
    (Memref.whole cc0_stg3_0).view.writes (Elt F) f (storesOf y L) = fun i => y (blockOf i) (placeOf i) := by
  funext i
  have hL := stores_cover y L i
  have ho := outRows_storesOf y L (blockOf i)
  generalize storesOf y L = L' at hL ho
  rw [writes_apply f L' i hL, ho]

/-- The run's contents are its stores over what was there. -/
theorem lastOut_stores [∀ e, Nonempty (Elt F e)] (out0 : S1x1024x1024.Idx → Elt F .f32) :
    lastOut WQ WO X KE VE c kb0 vb0 out0 = (Memref.whole cc0_stg3_0).view.writes (Elt F) out0
      (⟨rowsRect 3, s₇.sl.v3535 WQ WO X KE VE c kb0 vb0⟩ :: s₇.sl.Hout_15 WQ WO X KE VE c kb0 vb0) := rfl

/-- Whatever the scratch buffers and the result buffer held, the run leaves the result there. -/
theorem lastOut_eq [∀ e, Nonempty (Elt F e)] (out0 : S1x1024x1024.Idx → Elt F .f32) :
    lastOut WQ WO X KE VE c kb0 vb0 out0 = resultOf WQ WO X KE VE c := by
  obtain ⟨L, hL⟩ := stores_total WQ WO X KE VE c kb0 vb0
  have hrows : total WQ WO X KE VE c kb0 vb0 = rowsOf WQ WO X KE VE c := funext fun b => total_eq WQ WO X KE VE c kb0 vb0 b
  rw [lastOut_stores, hL, hrows, writes_storesOf]
  rfl

end Cert.RingAttn
-- ==== Proof.Frames.lean ====
/-
# `Frames`: both kernels run and leave their arguments as they were

The run of the whole program, with the result named: what it leaves in each device's result array, and that the arguments
and the semaphores end as they began. The two printed kernels have the same text but for the named constant, so the run
is taken at both.
-/
module

public import proofs.«01_k».proof.Defs
public import proofs.«01_k».proof.Proof.Launch
public import proofs.«01_k».proof.Proof.Blocks
public import proofs.«01_k».proof.Proof.Gen.Kernel

@[expose] public section

noncomputable section

namespace Cert.RingAttn

open Cert.KernelIdeal Cert.KernelIdeal.Gen

open Idealize.ShloMosaic
open Idealize.ShloMosaic.TcCoe
open Idealize.SL.Sem

section

variable {F : FTy → Type} [FloatOps F] [Named F] [∀ e, Nonempty (Elt F e)]

variable (m : (ℓ : Loc nD τ sig) → Buf (Elt F) ℓ) (ρ : Dev nD → PrngReg)

/-- What the run leaves of device `c`'s block of the result, as a function of the arguments. -/
def outOf (c : Dev nD) : S1x1024x1024.Idx → Elt F .f32 := resultOf (argQ m) (argO m) (argX m) (argK m) (argV m) c

/-- What every execution ends with: the result array as the pipeline writes it, the arguments unchanged. -/
def Ends (r : PUnit × MemSt nD τ sig (Elt F)) : Prop :=
  ∀ c : Dev nD, r.2.mem ((c : Thread nD τ).loc main_v1) = finalA m (outOf m) c 3
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

/-- Every execution, over any floats, ends so and with every semaphore at zero. -/
theorem run_ends : θ_run defs (onTc (τ := τ) (main (F := F))) ⟨m, fun _ => 0, ρ⟩ (fun r => Ends m r ∧ r.2.sem = fun _ => 0) :=
  (θ_run defs _ _).mono
    (fun _ h => ⟨fun c => ⟨(h.1 c).1 3, ((h.1 c).1 0).trans ((dats m (outOf m) 0 c).arrAt_in 0 rfl _),
      ((h.1 c).1 1).trans ((dats m (outOf m) 0 c).arrAt_in 1 rfl _), (h.1 c).2.1, (h.1 c).2.2,
      ((h.1 c).1 2).trans ((dats m (outOf m) 0 c).arrAt_in 2 rfl _)⟩, h.2⟩)
    (run_main m ρ (outOf m) (fun c kb0 vb0 out0 => lastOut_eq _ _ _ _ _ c kb0 vb0 out0))

end

/-- The idealized kernel's frame. -/
theorem frame_kernelIdeal : Cert.quiescent_KernelIdeal := fun m ρ _ =>
  (θ_run Cert.KernelIdeal.defs _ _).mono (fun _ h => ⟨fun c => (h.1 c).2, h.2⟩) (run_ends (F := Ideal) m ρ)

/-- Over words the named constant is the word the kernel has. -/
abbrev namedBits : Named Bits where
  named _ _ {φ} b := FloatOps.ofBits φ b

section

attribute [local instance] namedBits

/-- The two kernels' bodies are one program, -/
theorem body_same : Cert.Kernel.cc0__body (F := Bits) = Cert.KernelIdeal.cc0__body (F := Bits) := rfl

/-- so are their body tables, -/
theorem defs₀_same : Cert.Kernel.defs₀ (F := Bits) = Cert.KernelIdeal.defs₀ (F := Bits) := by
  unfold Cert.Kernel.defs₀ Cert.KernelIdeal.defs₀
  congr 1
  funext l a
  fin_cases l
  rfl

/-- and so are their definitions. -/
theorem defs_same : Cert.Kernel.defs (F := Bits) = Cert.KernelIdeal.defs (F := Bits) := congrArg (Pipeline.defs pcfgs) defs₀_same

/-- The kernel's frame: at that reading of the constant the two kernels are one program. -/
theorem frame_kernel : Cert.quiescent_Kernel := fun m ρ _ =>
  (congrArg (fun d => θ_run d (onTc (τ := τ) (main (F := Bits))) ⟨m, fun _ => 0, ρ⟩ _) defs_same).mpr
    ((θ_run Cert.KernelIdeal.defs _ _).mono (fun _ h => ⟨fun c => (h.1 c).2, h.2⟩) (run_ends (F := Bits) m ρ))

end

end Cert.RingAttn

end
-- ==== Proof.Softmax.lean ====
/-
# `Softmax`: weighted means over the extended reals

A row's softmax with its maximum subtracted and each weight divided is the sum of the exponentials times the values, over
the sum of the exponentials; and keys that a row does not see add nothing to either sum, so a window that holds all the
keys it sees gives the same.
-/
module

public import Idealize.ShloMosaic.PureOps.Ideal
public import Mathlib.Data.EReal.Inv
public import Mathlib.Algebra.BigOperators.Fin
public import Mathlib.Tactic.Abel

@[expose] public section

noncomputable section

namespace Cert.RingMath

open Idealize.ShloMosaic

/-! ## Reals among the extended reals -/

/-- The value is a real number. -/
def IsReal (x : EReal) : Prop := ∃ r : ℝ, x = r

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A finite sum of real values is real. -/
theorem IsReal.sum {ι : Type} (s : Finset ι) (f : ι → EReal) (h : ∀ k, IsReal (f k)) : IsReal (∑ k ∈ s, f k) := by
  classical
  induction s using Finset.induction_on with
  | empty => exact ⟨0, by simp⟩
  | insert a s ha ih => rw [Finset.sum_insert ha]; exact (h a).add ih

/-- A nonnegative real factor goes into a sum, whatever the addends. -/
theorem mul_sum_real {ι : Type} (c : ℝ) (hc : 0 ≤ c) (s : Finset ι) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- A sum of reals is the same taken among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## The softmax of one row -/

section

variable {ι : Type} [Fintype ι] (p : ι → Prop) [DecidablePred p]

/-- Scores with −∞ at the keys not seen. -/
def masked (t : ι → EReal) (j : ι) : EReal := if p j then t j else ⊥

/-- The exponential of a masked real score is real: that of the score, or zero. -/
theorem exp_masked (t : ι → ℝ) (j : ι) : Ideal.exp (masked p (fun j => (t j : EReal)) j) = ((if p j then Real.exp (t j) else 0 : ℝ) : EReal) := by
  unfold masked
  split <;> rfl

/-- The greatest of the masked scores is real, if any key is seen. -/
theorem max_masked (t : ι → ℝ) (hp : ∃ j, p j) : IsReal (Finset.univ.fold max ⊥ (masked p fun j => (t j : EReal))) := by
  classical
  obtain ⟨j, hj⟩ := hp
  have hlow : (t j : EReal) ≤ Finset.univ.fold max ⊥ (masked p fun j => (t j : EReal)) := by
    rw [Finset.le_fold_max]
    exact Or.inr ⟨j, Finset.mem_univ j, by unfold masked; rw [if_pos hj]⟩
  have hhigh : Finset.univ.fold max ⊥ (masked p fun j => (t j : EReal)) < ⊤ := by
    rw [Finset.fold_max_lt]
    refine ⟨bot_lt_top, fun k _ => ?_⟩
    unfold masked
    split
    · exact EReal.coe_lt_top _
    · exact bot_lt_top
  exact ⟨_, (EReal.coe_toReal hhigh.ne (lt_of_lt_of_le (EReal.bot_lt_coe _) hlow).ne').symm⟩

/-- The exponential of a masked score less `M`: the exponential times that of `-M` where kept, zero where masked. -/
theorem exp_sub (t : ι → ℝ) (M : ℝ) (j : ι) :
    Ideal.exp (masked p (fun j => (t j : EReal)) j - (M : EReal)) = (((if p j then Real.exp (t j) else 0) * Real.exp (-M) : ℝ) : EReal) := by
  unfold masked
  split
  · rw [← EReal.coe_sub, ← Real.exp_add, ← sub_eq_add_neg]; rfl
  · rw [EReal.bot_sub, zero_mul]; rfl

/-- The softmax with its maximum subtracted, weight by weight, is one quotient of two sums. -/
theorem softmax_eq (t : ι → EReal) (ht : ∀ j, IsReal (t j)) (hp : ∃ j, p j) (V : ι → EReal) :
    ∑ j, V j * Ideal.div (Ideal.exp (masked p t j - Finset.univ.fold max ⊥ (masked p t)))
        (∑ k, Ideal.exp (masked p t k - Finset.univ.fold max ⊥ (masked p t)))
      = Ideal.div (∑ j, Ideal.exp (masked p t j) * V j) (∑ j, Ideal.exp (masked p t j)) := by
  choose r hr using ht
  obtain rfl : t = fun j => (r j : EReal) := funext hr
  obtain ⟨M, hM⟩ := max_masked p r hp
  rw [hM]
  simp only [exp_sub, exp_masked]
  set E : ι → ℝ := fun j => if p j then Real.exp (r j) else 0 with hE
  have hE0 : ∀ j, 0 ≤ E j := fun j => by simp only [hE]; split; exacts [(Real.exp_pos _).le, le_rfl]
  have hpos : 0 < ∑ j, E j := by
    obtain ⟨j, hj⟩ := hp
    exact Finset.sum_pos' (fun k _ => hE0 k) ⟨j, Finset.mem_univ j, by simp only [hE, if_pos hj]; exact Real.exp_pos _⟩
  have hX := Real.exp_pos (-M)
  have hdiv : ∀ (x : EReal) (y : ℝ), y ≠ 0 → Ideal.div x (y : EReal) = x * ((y⁻¹ : ℝ) : EReal) := fun x y hy => by
    unfold Ideal.div
    rw [if_neg (by exact_mod_cast hy), EReal.coe_inv]
  rw [← coe_sum, ← coe_sum, ← Finset.sum_mul]
  have hw : ∀ j, Ideal.div ((E j * Real.exp (-M) : ℝ) : EReal) (((∑ k, E k) * Real.exp (-M) : ℝ) : EReal) = (((∑ k, E k)⁻¹ : ℝ) : EReal) * (E j : EReal) := fun j => by
    rw [hdiv _ _ (mul_pos hpos hX).ne', ← EReal.coe_mul, ← EReal.coe_mul]
    congr 1
    field_simp
  rw [Finset.sum_congr rfl fun j _ => by rw [hw j], hdiv _ _ hpos.ne', mul_comm (∑ j, _ : EReal), mul_sum_real _ (inv_nonneg.2 hpos.le)]
  exact Finset.sum_congr rfl fun j _ => (mul_left_comm _ _ _).trans (congrArg _ (mul_comm _ _))

end

/-! ## A window of keys -/

/-- A sum over a window is the sum over all the keys, when nothing lies outside the window. -/
theorem sum_window {W N : ℕ} (w : ℕ) (hw : w + W ≤ N) (f : Fin N → EReal) (hf : ∀ j : Fin N, (j : ℕ) < w ∨ w + W ≤ j → f j = 0) :
    ∑ j : Fin W, f ⟨w + j, by have := j.isLt; omega⟩ = ∑ j, f j := by
  classical
  let e : Fin W ↪ Fin N := ⟨fun j => ⟨w + j, by have := j.isLt; omega⟩, fun a b h => Fin.ext (by have := Fin.mk.inj_iff.1 h; omega)⟩
  rw [show (∑ j : Fin W, f ⟨w + j, by have := j.isLt; omega⟩) = ∑ j ∈ Finset.univ.map e, f j by rw [Finset.sum_map]; rfl]
  refine Finset.sum_subset (Finset.subset_univ _) fun j _ hj => hf j ?_
  by_contra hn
  rw [not_or, not_lt, not_le] at hn
  exact hj (Finset.mem_map.2 ⟨⟨j - w, by omega⟩, Finset.mem_univ _, Fin.ext (by show w + (↑j - w) = ↑j; omega)⟩)

/-- The keys within 128 positions of a row. -/
def near (i j : Fin 1024) : Prop := (i : ℕ) ≤ j + 128 ∧ (j : ℕ) ≤ i + 128

instance (i : Fin 1024) : DecidablePred (near i) := fun _ => inferInstanceAs (Decidable (_ ∧ _))

/-- Every position is near itself, so every row keeps a key. -/
theorem near_self (i : Fin 1024) : ∃ j, near i j := ⟨i, Nat.le_add_right _ _, Nat.le_add_right _ _⟩

/-! ## The sum over the columns of all the heads -/

/-- A column of the heads: group, head of the group, place in the head. -/
def column (g : Fin 4) (h : Fin 8) (d : Fin 128) : Fin 4096 := ⟨1024 * g + (128 * h + d), by have := g.isLt; have := h.isLt; have := d.isLt; omega⟩

/-- The head a column belongs to, of 32, and its place in the head. -/
abbrev headIn (e : Fin 4096) : Fin 32 := ⟨e / 128, by have := e.isLt; omega⟩
/-- The place of a column in its head. -/
abbrev placeIn (e : Fin 4096) : Fin 128 := ⟨e % 128, Nat.mod_lt _ (by decide)⟩

/-- Column `e` of group `g`. -/
abbrev groupCol (g : Fin 4) (e : Fin 1024) : Fin 4096 := ⟨1024 * g + e, by have := g.isLt; have := e.isLt; omega⟩

/-- A sum over the columns, group by group and head by head. -/
theorem sum_columns (f : Fin 4096 → EReal) : ∑ e, f e = ∑ g, ∑ h, ∑ d, f (column g h d) := by
  rw [← (finProdFinEquiv (m := 4) (n := 1024)).sum_comp, Fintype.sum_prod_type]
  refine Finset.sum_congr rfl fun g _ => ?_
  rw [← (finProdFinEquiv (m := 8) (n := 128)).sum_comp, Fintype.sum_prod_type]
  refine Finset.sum_congr rfl fun h _ => Finset.sum_congr rfl fun d _ => congrArg f (Fin.ext ?_)
  show (d : ℕ) + 128 * h + 1024 * g = 1024 * g + (128 * h + d)
  omega

/-- The four groups in the order in which a device comes to them. -/
theorem sum_ring (c : Fin 4) (f : Fin 4 → EReal) : f c + f (c + 2) + f (c + 1) + f (c + 3) = ∑ g, f g := by
  rw [Fin.sum_univ_four]
  fin_cases c
  · show f 0 + f 2 + f 1 + f 3 = _; abel
  · show f 1 + f 3 + f 2 + f 0 = _; abel
  · show f 2 + f 0 + f 3 + f 1 = _; abel
  · show f 3 + f 1 + f 0 + f 2 = _; abel

end Cert.RingMath

end
-- ==== Proof.Finite.lean ====
/-
# `Finite`: what the precondition says

Every element of `x`, of `Wq` and of `K_ext` is a real number.
-/
module

public import proofs.«01_k».proof.Pre_finite_KernelIdeal
public import proofs.«01_k».proof.Pre_finite_ReferenceIdeal
public import proofs.«01_k».proof.Proof.Softmax
public import Idealize.ShloMosaic.Lib.Pointwise
public import Idealize.ShloMosaic.Lib.ReduceAll

@[expose] public section

noncomputable section

/-- The side conditions of the precondition on one device's blocks, -/
instance Cert.Pre_finite_KernelIdeal.facts : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S4x1024x32x128 := by decide
  reducesTo_S4x1024x32x128_S_d0_1_2_3 := by decide

/-- and on the whole arrays. -/
instance Cert.Pre_finite_ReferenceIdeal.facts : Cert.Pre_finite_ReferenceIdeal.Facts where
  bcast_S_S4x1024x1024 := by decide
  reducesTo_S4x1024x1024_S_d0_1_2 := by decide
  h_S_ := by decide
  bcast_S_S1024x4096 := by decide
  reducesTo_S1024x4096_S_d0_1 := by decide
  bcast_S_S4x1024x32x128 := by decide
  reducesTo_S4x1024x32x128_S_d0_1_2_3 := by decide

namespace Cert.RingFinite

open Idealize.ShloMosaic
open Cert.Pre_finite_KernelIdeal Cert.Pre_finite_KernelIdeal.Facts
open Cert.RingMath

/-- The word the precondition compares with is plus infinity. -/
theorem inf_top : Ideal.ofBits .f32 0x7F800000#32 = ⊤ := by
  simp [Ideal.ofBits, Ideal.ieee]

/-- A number whose absolute value lies below infinity is real. -/
theorem real_of_abs (x : EReal) (h : FloatOps.cmpf (F := Ideal) (φ := .f32) .olt (FloatOps.hostAbsf (F := Ideal) (φ := .f32) x) (Ideal.ofBits .f32 0x7F800000#32) = 1#1) : IsReal x := by
  rw [inf_top] at h
  induction x with
  | coe r => exact ⟨r, rfl⟩
  | bot => exact absurd h (by simp [FloatOps.cmpf, FloatOps.hostAbsf, Idealize.ShloMosaic.Ideal.cmp])
  | top => exact absurd h (by simp [FloatOps.cmpf, FloatOps.hostAbsf, Idealize.ShloMosaic.Ideal.cmp])

/-- Where the precondition holds, every element of the three arrays is real. -/
theorem real_of_finite (x : FVec Ideal S1x1024x1024 .f32) (wq : FVec Ideal S1024x1024 .f32) (k v : FVec Ideal S4x1024x32x128 .f32) (wo : FVec Ideal S1024x1024 .f32)
    (h : Cert.Pre_finite_KernelIdeal.fn (F := Ideal) x wq k v wo = fun _ => 1#1) : (∀ i, IsReal (x i)) ∧ (∀ i, IsReal (wq i)) ∧ ∀ i, IsReal (k i) := by
  have h0 := congrFun h (fun a => a.elim0)
  dsimp only [Cert.Pre_finite_KernelIdeal.fn] at h0
  have hand : ∀ a b : BitVec 1, IntOp.andi a b = 1#1 → a = 1#1 ∧ b = 1#1 := by decide
  obtain ⟨h1, hk⟩ := hand _ _ h0
  obtain ⟨hx, hq⟩ := hand _ _ h1
  refine ⟨fun i => ?_, fun i => ?_, fun i => ?_⟩
  · exact real_of_abs _ (Host.reduce_andi_all _ _ _ _ _ hx i)
  · exact real_of_abs _ (Host.reduce_andi_all _ _ _ _ _ hq i)
  · exact real_of_abs _ (Host.reduce_andi_all _ _ _ _ _ hk i)

end Cert.RingFinite

end
-- ==== Proof.Window.lean ====
/-
# `Window`: the comparison that says whether a key is near a row

Both programs decide on 32-bit words whether a row and a key lie at most 128 positions apart: the difference's absolute
value is compared, signed, with 128. On the numbers that occur this is the comparison of natural numbers.
-/
module

public import Idealize.ShloMosaic.PureOps.Float

@[expose] public section

namespace Cert.RingMath

open Idealize.ShloMosaic

/-- The absolute value of the difference of two small numbers' words is the word of their distance. -/
theorem absi_sub (a b : ℕ) (ha : a < 2048) (hb : b < 2048) :
    IntOp.absi (IntOp.subi (BitVec.ofNat 32 a) (BitVec.ofNat 32 b)) = BitVec.ofNat 32 (if b ≤ a then a - b else b - a) := by
  apply BitVec.eq_of_toNat_eq
  unfold IntOp.absi IntOp.subi
  rw [BitVec.msb_eq_decide]
  simp only [BitVec.toNat_sub, BitVec.toNat_ofNat, decide_eq_true_eq]
  split <;> split <;> simp only [BitVec.toNat_neg, BitVec.toNat_sub, BitVec.toNat_ofNat] <;> omega

/-- Compared with 128 it says whether the numbers are at most 128 apart. -/
theorem near_word (a b : ℕ) (ha : a < 2048) (hb : b < 2048) :
    IntOp.cmpi .sle (IntOp.absi (IntOp.subi (BitVec.ofNat 32 a) (BitVec.ofNat 32 b))) 128#32 = if a ≤ b + 128 ∧ b ≤ a + 128 then 1#1 else 0#1 := by
  rw [absi_sub a b ha hb]
  generalize hd : (if b ≤ a then a - b else b - a) = d
  have hlt : d < 2048 := by split at hd <;> omega
  have hiff : (a ≤ b + 128 ∧ b ≤ a + 128) ↔ d ≤ 128 := by split at hd <;> omega
  have hle : (BitVec.ofNat 32 d).sle 128#32 = decide (d ≤ 128) := by
    rw [BitVec.sle_eq_decide, BitVec.toInt_eq_toNat_of_lt (by rw [BitVec.toNat_ofNat]; omega), BitVec.toNat_ofNat, Nat.mod_eq_of_lt (by omega)]
    exact decide_eq_decide.2 (by show (d : ℤ) ≤ 128 ↔ _; omega)
  show BitVec.ofBool ((BitVec.ofNat 32 d).sle 128#32) = _
  rw [hle]
  by_cases h : d ≤ 128
  · rw [decide_eq_true h, if_pos (hiff.2 h)]; rfl
  · rw [decide_eq_false h, if_neg (mt hiff.1 h)]; rfl

/-- The same where the first number comes in two parts. -/
theorem near_word_add (a s b : ℕ) (ha : a + s < 2048) (hb : b < 2048) :
    IntOp.cmpi .sle (IntOp.absi (IntOp.addi (IntOp.subi (BitVec.ofNat 32 a) (BitVec.ofNat 32 b)) (BitVec.ofNat 32 s))) 128#32
      = if a + s ≤ b + 128 ∧ b ≤ a + s + 128 then 1#1 else 0#1 := by
  rw [← near_word (a + s) b ha hb]
  have h : IntOp.addi (IntOp.subi (BitVec.ofNat 32 a) (BitVec.ofNat 32 b)) (BitVec.ofNat 32 s) = IntOp.subi (BitVec.ofNat 32 (a + s)) (BitVec.ofNat 32 b) := by
    apply BitVec.eq_of_toNat_eq
    unfold IntOp.addi IntOp.subi
    simp only [BitVec.toNat_add, BitVec.toNat_sub, BitVec.toNat_ofNat]
    omega
  rw [h]

end Cert.RingMath
-- ==== Proof.Heads.lean ====
/-
# `Heads`: the kernel's operations, element by element

One head's output, and eight heads projected, as sums over the elements of the blocks they are computed from.
-/
module

public import proofs.«01_k».proof.Proof.Blocks
public import proofs.«01_k».proof.Proof.Softmax
public import proofs.«01_k».proof.Proof.Window
public import Idealize.ShloMosaic.Lib.Pointwise

@[expose] public section

noncomputable section

namespace Cert.RingAttn

open Cert.KernelIdeal Cert.KernelIdeal.Gen
open Cert.RingMath

open Idealize.ShloMosaic
open Idealize.ShloMosaic.TcCoe
open scoped BigOperators

/-- A scaled query. -/
theorem queries_apply (x : Vec Ideal S1x256x1024 .f32) (wq : Vec Ideal S1024x1024 .f32) (r : Fin 256) (e : Fin 1024) :
    queries x wq (ix2 r e) = (∑ l : Fin 1024, x (ix3 (0 : Fin 1) r l) * wq (ix2 l e)) * Ideal.ofBits .f32 0x3DB504F3#32 := by
  pointwise [queries]

/-- Head `h`'s columns of 1024, of 128 each. -/
abbrev headCol (h : Fin 8) (d : Fin 128) : Fin 1024 := ⟨128 * h + d, by have := h.isLt; have := d.isLt; omega⟩

/-- A head's queries are its columns. -/
theorem headSlice_apply (q : FVec Ideal S256x1024 .f32) (h : Fin 8) (r : Fin 256) (d : Fin 128) :
    extractStridedSlice S256x128 ![0, 128 * h.val] q (inb_head h) (ix2 r d) = q (ix2 r (headCol h d)) := by
  refine extractStridedSlice_apply _ _ _ _ _ fun a => ?_
  match a with
  | ⟨0, _⟩ => show r.val = 0 + r.val; omega
  | ⟨1, _⟩ => rfl

/-- The exponential of a score. -/
theorem expScores_apply (q : FVec Ideal S256x1024 .f32) (bnd : FVec Ideal S256x512 .f32) (h : Fin 8) (k : Vec Ideal S1x512x128 .f32) (r : Fin 256) (j : Fin 512) :
    expScores q bnd h k (ix2 r j) = Ideal.exp ((∑ d : Fin 128, q (ix2 r (headCol h d)) * k (ix3 (0 : Fin 1) j d)) + bnd (ix2 r j)) := by
  have hs := headSlice_apply q h
  unfold expScores
  generalize extractStridedSlice S256x128 ![0, 128 * h.val] q (inb_head h) = qs at hs
  pointwise []
  simp only [hs]

/-- A head's output. -/
theorem head_apply (q : FVec Ideal S256x1024 .f32) (bnd : FVec Ideal S256x512 .f32) (h : Fin 8) (k v : Vec Ideal S1x512x128 .f32) (r : Fin 256) (d : Fin 128) :
    head q bnd h k v (ix2 r d) = Ideal.div (∑ j : Fin 512, expScores q bnd h k (ix2 r j) * v (ix3 (0 : Fin 1) j d)) (∑ j : Fin 512, expScores q bnd h k (ix2 r j)) := by
  unfold head
  generalize expScores q bnd h k = e
  pointwise []

/-- A head projected. -/
theorem proj_apply (c : FVec Ideal S256x128 .f32) (w : FVec Ideal S128x1024 .f32) (r : Fin 256) (n : Fin 1024) :
    proj c w (ix2 r n) = ∑ d : Fin 128, c (ix2 r d) * w (ix2 d n) := by
  pointwise [proj]

/-- Eight heads projected and added. -/
theorem projAll_apply (c : Fin 8 → FVec Ideal S256x128 .f32) (w : Fin 8 → FVec Ideal S128x1024 .f32) (r : Fin 256) (n : Fin 1024) :
    projAll c w (ix2 r n) = ∑ h : Fin 8, ∑ d : Fin 128, c h (ix2 r d) * w h (ix2 d n) := by
  rw [Fin.sum_univ_eight]
  simp only [← proj_apply]
  rfl

/-- The additive mask of a block's window, at a row and a key: nothing is added to the keys near the row, the others are masked. -/
theorem band_apply (b : Fin 4) (r : Fin 256) (j : Fin 512) (hi : 256 * b.val + r.val < 1024) (hj : w0 b + j.val < 1024) :
    band (F := Ideal) (shift b) (ix2 r j) = if near ⟨256 * b.val + r.val, hi⟩ ⟨w0 b + j.val, hj⟩ then 0 else ⊥ := by
  obtain ⟨s, hs, hb, hlt⟩ : ∃ s : ℕ, shift b = BitVec.ofNat 32 s ∧ 256 * b.val = w0 b + s ∧ s ≤ 256 := by
    fin_cases b
    exacts [⟨0, rfl, rfl, by decide⟩, ⟨128, rfl, rfl, by decide⟩, ⟨128, rfl, rfl, by decide⟩, ⟨256, rfl, rfl, by decide⟩]
  rw [hs]
  pointwise [band]
  rw [near_word_add _ _ _ (by have := r.isLt; omega) (by have := j.isLt; omega)]
  have hiff : near ⟨256 * b.val + r.val, hi⟩ ⟨w0 b + j.val, hj⟩ ↔ (r.val + s ≤ j.val + 128 ∧ j.val ≤ r.val + s + 128) := by
    unfold near
    show (256 * b.val + r.val ≤ w0 b + j.val + 128 ∧ w0 b + j.val ≤ 256 * b.val + r.val + 128) ↔ _
    omega
  by_cases h : near ⟨256 * b.val + r.val, hi⟩ ⟨w0 b + j.val, hj⟩
  · rw [if_pos h, if_pos (hiff.1 h)]; rfl
  · rw [if_neg h, if_neg (mt hiff.2 h)]; rfl

end Cert.RingAttn

end
-- ==== Proof.Reference.lean ====
/-
# `Reference`: the reference's result, element by element

The reference's composed term is cut into its steps — which keys a row sees, the scores, their exponentials, the
weights, the result — and each step is read at an index.
-/
module

public import proofs.«01_k».proof.Proof.Gen.ReferenceIdeal.Run
public import proofs.«01_k».proof.Proof.Softmax
public import proofs.«01_k».proof.Proof.Window
public import Idealize.ShloMosaic.Lib.Pointwise
public import Idealize.ShloMosaic.PureOps.Reduce

@[expose] public section

noncomputable section

namespace Cert.RingRef

open Cert.ReferenceIdeal Cert.ReferenceIdeal.Gen
open Idealize.ShloMosaic
open Idealize.ShloMosaic.TcCoe
open Cert.RingMath

/-- Which keys a row sees. -/
def keep : (⟨S1024x1024, .i1⟩ : BufTy).Contents (Elt Ideal) :=
  cmpi .sle (absi (subi (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0)))))
    (broadcastInDim S1024x1024 ![] bcast_S_S1024x1024 (constantI S_ 32 128#32))

/-- Whether a row sees any key. -/
def anyKeep : (⟨S1024, .i1⟩ : BufTy).Contents (Elt Ideal) := Host.reduce IntOp.ori keep (constantI S_ 1 0#1) reducesTo_S1024x1024_S1024_d1 h_S_

/-- The scaled scores, −∞ at the keys a row does not see. -/
def scores (x : FVec Ideal S4x1024x1024 .f32) (wq : FVec Ideal S1024x4096 .f32) (k : FVec Ideal S4x1024x32x128 .f32) : FVec Ideal S4x32x1024x1024 .f32 :=
  select (broadcastInDim S4x32x1024x1024 ![0, 1, 2, 3] bcast_S1x1x1024x1024_S4x32x1024x1024_0_1_2_3 (broadcastInDim S1x1x1024x1024 ![2, 3] bcast_S1024x1024_S1x1x1024x1024_2_3 keep))
    (mulf (Host.dotGeneral dot_S4x1024x32x128_S4x1024x32x128_S4x32x1024x1024_3_3_1_1_02_02 none
        (shapeCast _ (Host.dotGeneral dot_S4x1024x1024_S1024x4096_S4x1024x4096_2_0_01_1_n_n none x wq) shapeCasts_S4x1024x4096_S4x1024x32x128) k)
      (broadcastInDim S4x32x1024x1024 ![] bcast_S_S4x32x1024x1024 (constant S_ .f32 0x3DB504F3#32)))
    (broadcastInDim S4x32x1024x1024 ![] bcast_S_S4x32x1024x1024 (constant S_ .f32 0xFF800000#32))

/-- The exponentials of the scores less their row's maximum. -/
def expo (s : FVec Ideal S4x32x1024x1024 .f32) : FVec Ideal S4x32x1024x1024 .f32 :=
  Host.exp (subf s (broadcastInDim S4x32x1024x1024 ![0, 1, 2, 3] bcast_S4x32x1024x1_S4x32x1024x1024_0_1_2_3 (broadcastInDim S4x32x1024x1 ![0, 1, 2] bcast_S4x32x1024_S4x32x1024x1_0_1_2
    (Host.reduce FloatOps.maximumf s (constant S_ .f32 0xFF800000#32) reducesTo_S4x32x1024x1024_S4x32x1024_d3 h_S_))))

/-- The exponentials over their row's sum. -/
def weights (e : FVec Ideal S4x32x1024x1024 .f32) : FVec Ideal S4x32x1024x1024 .f32 :=
  select (broadcastInDim S4x32x1024x1024 ![0, 1, 2, 3] bcast_S1x1x1024x1_S4x32x1024x1024_0_1_2_3 (broadcastInDim S1x1x1024x1 ![2] bcast_S1024_S1x1x1024x1_2 anyKeep))
    (Host.divf e (broadcastInDim S4x32x1024x1024 ![0, 1, 2, 3] bcast_S4x32x1024x1_S4x32x1024x1024_0_1_2_3
      (select (broadcastInDim S4x32x1024x1 ![0, 1, 2, 3] bcast_S1x1x1024x1_S4x32x1024x1_0_1_2_3 (broadcastInDim S1x1x1024x1 ![2] bcast_S1024_S1x1x1024x1_2 anyKeep))
        (broadcastInDim S4x32x1024x1 ![0, 1, 2] bcast_S4x32x1024_S4x32x1024x1_0_1_2 (Host.reduceAdd e (constant S_ .f32 0x00000000#32) reducesTo_S4x32x1024x1024_S4x32x1024_d3 h_S_))
        (broadcastInDim S4x32x1024x1 ![] bcast_S_S4x32x1024x1 (constant S_ .f32 0x3F800000#32)))))
    (broadcastInDim S4x32x1024x1024 ![] bcast_S_S4x32x1024x1024 (constant S_ .f32 0x00000000#32))

/-- The values weighted, and the heads projected. -/
def result (w : FVec Ideal S4x32x1024x1024 .f32) (v : FVec Ideal S4x1024x32x128 .f32) (wo : FVec Ideal S4096x1024 .f32) : FVec Ideal S4x1024x1024 .f32 :=
  Host.dotGeneral dot_S4x1024x4096_S4096x1024_S4x1024x1024_2_0_01_1_n_n none
    (shapeCast _ (transpose S4x1024x32x128 [0, 3, 1, 2] (Host.dotGeneral dot_S4x1024x32x128_S4x32x1024x1024_S4x32x128x1024_1_3_3_2_02_01 none v w)
      transposes_S4x32x128x1024_S4x1024x32x128_0_3_1_2) shapeCasts_S4x1024x32x128_S4x1024x4096) wo

/-- The reference's result is these steps in turn. -/
theorem res_eq (m : (ℓ : Loc nD τ sig) → Buf (Elt Ideal) ℓ) (c : Dev nD) :
    Value.res_out0 m c = result (weights (expo (scores (m ((c.tc : Thread nD τ).loc main_arg0)) (m ((c.tc : Thread nD τ).loc main_arg1))
      (m ((c.tc : Thread nD τ).loc main_arg2))))) (m ((c.tc : Thread nD τ).loc main_arg3)) (m ((c.tc : Thread nD τ).loc main_arg4)) := rfl

/-! ## Each step at an index -/

/-- An element of the reference's result: for each column of the heads the weighted sum of the values, times `Wo`, summed. -/
theorem result_apply (w : FVec Ideal S4x32x1024x1024 .f32) (v : FVec Ideal S4x1024x32x128 .f32) (wo : FVec Ideal S4096x1024 .f32) (b : Fin 4) (i n : Fin 1024) :
    result w v wo (ix3 b i n) = ∑ e : Fin 4096, (∑ j : Fin 1024, v (ix4 b j (headIn e) (placeIn e))
      * w (ix4 b (headIn e) i j)) * wo (ix2 e n) := by
  pointwise [result]

/-- A key is seen exactly when it is near the row. -/
theorem keep_apply (i j : Fin 1024) : keep (ix2 i j) = if near i j then 1#1 else 0#1 := by
  pointwise [keep]
  exact near_word i j (by have := i.isLt; omega) (by have := j.isLt; omega)

/-- Every row sees a key. -/
theorem anyKeep_apply (i : Fin 1024) : anyKeep (ix1 i) = 1#1 := by
  pointwise [anyKeep]
  classical
  have hor : ∀ (s : Finset (Fin 1024)) (f : Fin 1024 → BitVec 1), (∃ j ∈ s, f j = 1#1) → s.fold IntOp.ori 0#1 f = 1#1 := by
    intro s f
    induction s using Finset.induction_on with
    | empty => rintro ⟨_, h, _⟩; exact absurd h (Finset.notMem_empty _)
    | insert a s ha ih =>
      rintro ⟨j, hj, hf⟩
      rw [Finset.fold_insert ha]
      rcases Finset.mem_insert.1 hj with rfl | hs
      · rw [hf]; exact (by decide : ∀ y : BitVec 1, IntOp.ori 1#1 y = 1#1) _
      · rw [ih ⟨j, hs, hf⟩]; exact (by decide : ∀ y : BitVec 1, IntOp.ori y 1#1 = 1#1) _
  obtain ⟨j, hj⟩ := near_self i
  exact hor _ _ ⟨j, Finset.mem_univ j, (keep_apply i j).trans (if_pos hj)⟩

/-- A weight is the exponential over the sum of its row. -/
theorem weights_apply (e : FVec Ideal S4x32x1024x1024 .f32) (b : Fin 4) (h : Fin 32) (i j : Fin 1024) :
    weights e (ix4 b h i j) = Ideal.div (e (ix4 b h i j)) (∑ k, e (ix4 b h i k)) := by
  pointwise [weights]
  rw [anyKeep_apply]
  rfl

/-- The word the reference masks with is minus infinity. -/
theorem neg_inf : Ideal.ofBits .f32 0xFF800000#32 = ⊥ := by
  simp [Ideal.ofBits, Ideal.ieee]

/-- The exponential of a score less the greatest of its row. -/
theorem expo_apply (s : FVec Ideal S4x32x1024x1024 .f32) (b : Fin 4) (h : Fin 32) (i j : Fin 1024) :
    expo s (ix4 b h i j) = Ideal.exp (s (ix4 b h i j) - Finset.univ.fold max ⊥ fun k => s (ix4 b h i k)) := by
  pointwise [expo]
  rw [neg_inf]

/-- A query's score at a key. -/
def score (x : FVec Ideal S4x1024x1024 .f32) (wq : FVec Ideal S1024x4096 .f32) (k : FVec Ideal S4x1024x32x128 .f32) (b : Fin 4) (h : Fin 32) (i j : Fin 1024) : EReal :=
  (∑ d : Fin 128, (∑ l : Fin 1024, x (ix3 b i l) * wq (ix2 l ⟨h * 128 + d, by have := h.isLt; have := d.isLt; omega⟩)) * k (ix4 b j h d)) * Ideal.ofBits .f32 0x3DB504F3#32

/-- A score inside the window is the product of query and key; outside it is minus infinity. -/
theorem scores_apply (x : FVec Ideal S4x1024x1024 .f32) (wq : FVec Ideal S1024x4096 .f32) (k : FVec Ideal S4x1024x32x128 .f32) (b : Fin 4) (h : Fin 32) (i j : Fin 1024) :
    scores x wq k (ix4 b h i j) = masked (near i) (score x wq k b h i) j := by
  pointwise [scores]
  rw [keep_apply, neg_inf]
  unfold masked score
  split <;> rfl

/-- One head's output for a row, at a place in the head. -/
def context (x : FVec Ideal S4x1024x1024 .f32) (wq : FVec Ideal S1024x4096 .f32) (k v : FVec Ideal S4x1024x32x128 .f32) (b : Fin 4) (h : Fin 32) (i : Fin 1024) (d : Fin 128) : EReal :=
  Ideal.div (∑ j, Ideal.exp (masked (near i) (score x wq k b h i) j) * v (ix4 b j h d)) (∑ j, Ideal.exp (masked (near i) (score x wq k b h i) j))

/-- Where the scores are real the reference's result is the heads' outputs projected. -/
theorem reference_apply (x : FVec Ideal S4x1024x1024 .f32) (wq : FVec Ideal S1024x4096 .f32) (k v : FVec Ideal S4x1024x32x128 .f32) (wo : FVec Ideal S4096x1024 .f32)
    (hs : ∀ b h i j, IsReal (score x wq k b h i j)) (b : Fin 4) (i n : Fin 1024) :
    result (weights (expo (scores x wq k))) v wo (ix3 b i n)
      = ∑ e : Fin 4096, context x wq k v b (headIn e) i (placeIn e) * wo (ix2 e n) := by
  rw [result_apply]
  refine Finset.sum_congr rfl fun e _ => congrArg (· * _) ?_
  simp only [weights_apply, expo_apply, scores_apply]
  exact softmax_eq (near i) _ (hs _ _ _) (near_self i) _

end Cert.RingRef

end
-- ==== Proof.Groups.lean ====
/-
# `Groups`: a device's result is the reference's

Each of the four groups of eight heads, computed from the blocks the device holds when it comes to the group, is the
reference's eight heads projected; the four groups added are the reference's sum over all 32 heads.
-/
module

public import proofs.«01_k».proof.Proof.Heads
public import proofs.«01_k».proof.Proof.Reference

@[expose] public section

noncomputable section

namespace Cert.RingAttn

open Cert.KernelIdeal Cert.KernelIdeal.Gen
open Cert.RingMath Cert.RingRef

open Idealize.ShloMosaic
open Idealize.ShloMosaic.TcCoe
open scoped BigOperators

/-! ## What the reads find -/

/-- Row `r` of block `b`, of 1024. -/
abbrev rowAt (b : Fin 4) (r : Fin 256) : Fin 1024 := ⟨256 * b.val + r, by have := b.isLt; have := r.isLt; omega⟩

/-- A window of 512 keys ends within the 1024. -/
theorem w0_le : ∀ b : Fin 4, w0 b + 512 ≤ 1024 := by decide +kernel

/-- Key `j` of block `b`'s window, of 1024. -/
abbrev keyAt (b : Fin 4) (j : Fin 512) : Fin 1024 := ⟨w0 b + j, by have := w0_le b; have := j.isLt; omega⟩

/-- An element of a block of rows of `x`. -/
theorem xRows_apply (x : S1x1024x1024.Idx → Elt Ideal .f32) (b : Fin 4) (r : Fin 256) (l : Fin 1024) :
    xRows x b (ix3 (0 : Fin 1) r l) = x (ix3 (0 : Fin 1) (rowAt b r) l) := by
  refine congrArg x (funext fun a => Fin.ext ?_)
  match a with
  | ⟨0, _⟩ => rfl
  | ⟨1, _⟩ => show 256 * b.val + 1 * r.val = 256 * b.val + r.val; omega
  | ⟨2, _⟩ => show 0 + 1 * l.val = l.val; omega

/-- An element of a head's window of keys. -/
theorem kRows_apply (kb : S8x1024x128.Idx → Elt Ideal .f32) (b : Fin 4) (h : Fin 8) (j : Fin 512) (d : Fin 128) :
    kRows kb b h (ix3 (0 : Fin 1) j d) = kb (ix3 h (keyAt b j) d) := by
  refine congrArg kb (funext fun a => Fin.ext ?_)
  match a with
  | ⟨0, _⟩ => rfl
  | ⟨1, _⟩ => show w0 b + 1 * j.val = w0 b + j.val; omega
  | ⟨2, _⟩ => show 0 + 1 * d.val = d.val; omega

/-- An element of a head's window of values. -/
theorem vRows_apply (vb : S8x1024x128.Idx → Elt Ideal .f32) (b : Fin 4) (h : Fin 8) (j : Fin 512) (d : Fin 128) :
    vRows vb b h (ix3 (0 : Fin 1) j d) = vb (ix3 h (keyAt b j) d) := by
  refine congrArg vb (funext fun a => Fin.ext ?_)
  match a with
  | ⟨0, _⟩ => rfl
  | ⟨1, _⟩ => show w0 b + 1 * j.val = w0 b + j.val; omega
  | ⟨2, _⟩ => show 0 + 1 * d.val = d.val; omega

/-- An element of the device's own block of `Wq`. -/
theorem wqOwn_apply (W : S1024x1024.Idx → Elt Ideal .f32) (l e : Fin 1024) : wqOwn W (ix2 l e) = W (ix2 l e) := by
  refine (congrFun (shapeCast_self _ _) _).trans (congrArg W (funext fun a => Fin.ext ?_))
  match a with
  | ⟨0, _⟩ => show 0 + 1 * l.val = l.val; omega
  | ⟨1, _⟩ => show 0 + 1 * e.val = e.val; omega

/-- An element of the block of `Wq` in a slot. -/
theorem wqSlot_apply (k : Fin 2) (W : S1024x1024.Idx → Elt Ideal .f32) (l e : Fin 1024) : wqSlot k W (ix2 l e) = W (ix2 l e) := by
  unfold wqSlot
  rw [shapeCast_dropUnit_apply]
  refine congrArg W (funext fun a => Fin.ext ?_)
  match a with
  | ⟨0, _⟩ => show 0 + 1 * l.val = l.val; omega
  | ⟨1, _⟩ => show 0 + 1 * e.val = e.val; omega

/-- An element of a head's rows of the device's own block of `Wo`. -/
theorem woOwn_apply (W : S1024x1024.Idx → Elt Ideal .f32) (h : Fin 8) (d : Fin 128) (n : Fin 1024) : woOwn W h (ix2 d n) = W (ix2 (headCol h d) n) := by
  refine (congrFun (shapeCast_self _ _) _).trans (congrArg W (funext fun a => Fin.ext ?_))
  match a with
  | ⟨0, _⟩ => show 128 * h.val + 1 * d.val = 128 * h.val + d.val; omega
  | ⟨1, _⟩ => show 0 + 1 * n.val = n.val; omega

/-- An element of a head's rows of the block of `Wo` in a slot. -/
theorem woSlot_apply (k : Fin 3) (W : S1024x1024.Idx → Elt Ideal .f32) (h : Fin 8) (d : Fin 128) (n : Fin 1024) :
    woSlot k W h (ix2 d n) = W (ix2 (headCol h d) n) := by
  unfold woSlot
  rw [shapeCast_dropUnit_apply]
  refine congrArg W (funext fun a => Fin.ext ?_)
  match a with
  | ⟨0, _⟩ => show 128 * h.val + 1 * d.val = 128 * h.val + d.val; omega
  | ⟨1, _⟩ => show 0 + 1 * n.val = n.val; omega

/-! ## One group of eight heads -/

/-- The scale is a nonnegative real. -/
theorem scale_real : ∃ s : ℝ, 0 ≤ s ∧ Ideal.ofBits .f32 0x3DB504F3#32 = (s : EReal) := by
  refine ⟨_, ?_, by simp [Ideal.ofBits, Ideal.ieee]; rfl⟩
  positivity

variable (xx : FVec Ideal Cert.ReferenceIdeal.S4x1024x1024 .f32) (qq : FVec Ideal Cert.ReferenceIdeal.S1024x4096 .f32)
variable (kk vv : FVec Ideal S4x1024x32x128 .f32) (oo : FVec Ideal Cert.ReferenceIdeal.S4096x1024 .f32)

/-- Head `h` of group `g`, of 32. -/
abbrev headOf (g : Fin 4) (h : Fin 8) : Fin 32 := ⟨8 * g + h, by have := g.isLt; have := h.isLt; omega⟩

section

variable (p g b : Fin 4) (x : S1x1024x1024.Idx → Elt Ideal .f32) (wq : FVec Ideal S1024x1024 .f32) (kb vb : S8x1024x128.Idx → Elt Ideal .f32)
variable (hx : ∀ i l : Fin 1024, x (ix3 (0 : Fin 1) i l) = xx (ix3 p i l))
variable (hq : ∀ l e : Fin 1024, wq (ix2 l e) = qq (ix2 l (groupCol g e)))
variable (hk : ∀ (h : Fin 8) (j : Fin 1024) (d : Fin 128), kb (ix3 h j d) = kk (ix4 p j (headOf g h) d))
variable (hv : ∀ (h : Fin 8) (j : Fin 1024) (d : Fin 128), vb (ix3 h j d) = vv (ix4 p j (headOf g h) d))
include hx hq hk

/-- A key's exponential is the reference's, of the masked score. -/
theorem exp_eq (h : Fin 8) (r : Fin 256) (j : Fin 512) :
    expScores (queries (xRows x b) wq) (band (shift b)) h (kRows kb b h) (ix2 r j)
      = Ideal.exp (masked (near (rowAt b r)) (score xx qq kk p (headOf g h) (rowAt b r)) (keyAt b j)) := by
  rw [expScores_apply, band_apply b r j (rowAt b r).isLt (keyAt b j).isLt]
  obtain ⟨s, hs, hsc⟩ := scale_real
  have e : (∑ d : Fin 128, queries (xRows x b) wq (ix2 r (headCol h d)) * kRows kb b h (ix3 (0 : Fin 1) j d)) = score xx qq kk p (headOf g h) (rowAt b r) (keyAt b j) := by
    unfold score
    rw [hsc, mul_comm, mul_sum_real s hs]
    refine Finset.sum_congr rfl fun d _ => ?_
    rw [queries_apply, hsc, kRows_apply, hk, mul_comm _ (s : EReal), mul_assoc]
    congr 2
    refine Finset.sum_congr rfl fun l _ => ?_
    rw [xRows_apply, hx, hq]
    congr 3
    exact Fin.ext (by show 1024 * g.val + (128 * h.val + d.val) = (8 * g.val + h.val) * 128 + d.val; omega)
  rw [e]
  unfold masked
  split
  · rw [add_zero]
  · rw [EReal.add_bot]

include hv

/-- A head's output is the reference's. -/
theorem heads_eq (h : Fin 8) (r : Fin 256) (d : Fin 128) :
    heads x wq kb vb b h (ix2 r d) = context xx qq kk vv p (headOf g h) (rowAt b r) d := by
  unfold heads
  rw [head_apply]
  simp only [exp_eq xx qq kk p g b x wq kb hx hq hk, vRows_apply, hv]
  have hout : ∀ j : Fin 1024, (j : ℕ) < w0 b ∨ w0 b + 512 ≤ j → Ideal.exp (masked (near (rowAt b r)) (score xx qq kk p (headOf g h) (rowAt b r)) j) = 0 := by
    intro j hj
    unfold masked
    rw [if_neg]
    · rfl
    · unfold near
      show ¬ (256 * b.val + r.val ≤ j.val + 128 ∧ j.val ≤ 256 * b.val + r.val + 128)
      have hw : ∀ b : Fin 4, (w0 b = 0 ∨ w0 b + 128 ≤ 256 * b.val) ∧ (w0 b + 512 = 1024 ∨ 256 * b.val + 255 + 128 < w0 b + 512) := by decide +kernel
      have := hw b
      have := j.isLt
      have := r.isLt
      omega
  unfold context
  exact congrArg₂ Ideal.div
    (sum_window (w0 b) (w0_le b) (fun j => Ideal.exp (masked (near (rowAt b r)) (score xx qq kk p (headOf g h) (rowAt b r)) j) * vv (ix4 p j (headOf g h) d))
      fun j hj => by rw [hout j hj, zero_mul])
    (sum_window (w0 b) (w0_le b) _ hout)

/-- The group's rows are the reference's sum over the group's columns. -/
theorem group_eq (w : Fin 8 → FVec Ideal S128x1024 .f32) (hw : ∀ (h : Fin 8) (d : Fin 128) (n : Fin 1024), w h (ix2 d n) = oo (ix2 (column g h d) n))
    (r : Fin 256) (n : Fin 1024) :
    projAll (heads x wq kb vb b) w (ix2 r n) = ∑ h : Fin 8, ∑ d : Fin 128, (fun e : Fin 4096 => context xx qq kk vv p (headIn e) (rowAt b r) (placeIn e) * oo (ix2 e n)) (column g h d) := by
  rw [projAll_apply]
  refine Finset.sum_congr rfl fun h _ => Finset.sum_congr rfl fun d _ => ?_
  rw [heads_eq xx qq kk vv p g b x wq kb vb hx hq hk hv, hw]
  show _ = context xx qq kk vv p ⟨(column g h d).val / 128, _⟩ (rowAt b r) ⟨(column g h d).val % 128, _⟩ * _
  have hd := d.isLt
  congr 2
  · exact Fin.ext (by show 8 * g.val + h.val = (1024 * g.val + (128 * h.val + d.val)) / 128; omega)
  · exact Fin.ext (by show d.val = (1024 * g.val + (128 * h.val + d.val)) % 128; omega)

end

/-! ## The four groups -/

/-- A position of a slab, in its one-head block. -/
theorem unit_place (hn) (j : Fin 1024) (d : Fin 128) :
    Shape.reshapeEquiv (s := S1x1024x1x128) (s' := S1024x128) hn (ix2 j d) = ix4 (0 : Fin 1) j (0 : Fin 1) d := by
  apply Shape.reshapeEquiv_eq_of_rowMajor
  rw [Shape.rowMajor_val_four, Shape.rowMajor_val_two]
  show ((0 * 1024 + j.val) * 1 + 0) * 128 + d.val = j.val * 128 + d.val
  omega

/-- Where a slab at batch `p` and head `q` has an element in the array of keys. -/
theorem slab_place (off : Fin 4 → ℕ) (inb : ∀ a, off a + S1x1024x1x128.size a ≤ S4x1024x32x128.size a) (hn) (p : Fin 4) (q : Fin 32) (ho : off = ![p.val, 0, q.val, 0])
    (j : Fin 1024) (d : Fin 128) :
    (Rect.unit (s := S4x1024x32x128) off S1x1024x1x128.size inb).emb (Shape.reshapeEquiv (s := S1x1024x1x128) (s' := S1024x128) hn (ix2 j d)) = ix4 p j q d := by
  subst ho
  rw [unit_place]
  funext a
  refine Fin.ext ?_
  match a with
  | ⟨0, _⟩ => rfl
  | ⟨1, _⟩ => show 0 + 1 * j.val = j.val; omega
  | ⟨2, _⟩ => rfl
  | ⟨3, _⟩ => show 0 + 1 * d.val = d.val; omega

/-- A head's slab read out of the array of keys, and of values: batch `p`, head `q`. -/
theorem fromK_apply (off : Offs) (K : S4x1024x32x128.Idx → Elt Ideal .f32) (h : Fin 8) (p : Fin 4) (q : Fin 32) (ho : off.1 h = ![p.val, 0, q.val, 0])
    (j : Fin 1024) (d : Fin 128) : fromK off K h (ix2 j d) = K (ix4 p j q d) :=
  congrArg K (slab_place (off.1 h) (off.2 h) _ p q ho j d)
/-- An element of a head copied out of the values. -/
theorem fromV_apply (off : Offs) (K : S4x1024x32x128.Idx → Elt Ideal .f32) (h : Fin 8) (p : Fin 4) (q : Fin 32) (ho : off.1 h = ![p.val, 0, q.val, 0])
    (j : Fin 1024) (d : Fin 128) : fromV off K h (ix2 j d) = K (ix4 p j q d) :=
  congrArg K (slab_place (off.1 h) (off.2 h) _ p q ho j d)

/-- Where each of the four groups starts: the device's own, and those one, two and three places to the right. -/
theorem offOwn_eq (c : Dev nD) (h : Fin 8) : (offOwn c).1 h = ![c.val, 0, (headOf c h).val, 0] := k0_off1_eq c h
/-- Where head `h` of the right neighbour's group starts, in numbers. -/
theorem offRight_eq (c : Dev nD) (h : Fin 8) : (offRight c).1 h = ![c.val, 0, (headOf (c + 1) h).val, 0] := (k0_off3_eq c 0 h).trans (by revert c h; decide +kernel)
/-- Where head `h` of the opposite device's group starts, in numbers. -/
theorem offOpp_eq (c : Dev nD) (h : Fin 8) : (offOpp c).1 h = ![c.val, 0, (headOf (c + 2) h).val, 0] := (k0_off3_eq c 1 h).trans (by revert c h; decide +kernel)
/-- Where head `h` of the left neighbour's group starts, in numbers. -/
theorem offLeft_eq (c : Dev nD) (h : Fin 8) : (offLeft c).1 h = ![c.val, 0, (headOf (c + 3) h).val, 0] := (k0_off2_eq c h).trans (by revert c h; decide +kernel)

/-- The right neighbour is one place on. -/
theorem nxt_eq (c : Dev nD) : nxt c = c + 1 := rfl
/-- The left neighbour is three places on. -/
theorem prv_eq (c : Dev nD) : prv c = c + 3 := rfl
/-- Two places to the right is opposite, -/
theorem nxt_nxt (c : Dev nD) : nxt (nxt c) = c + 2 := by revert c; decide
/-- and so is two places to the left. -/
theorem prv_prv (c : Dev nD) : prv (prv c) = c + 2 := by revert c; decide
/-- Three places to the left is one to the right, -/
theorem prv_prv_prv (c : Dev nD) : prv (prv (prv c)) = c + 1 := by revert c; decide
/-- and three to the right is one to the left. -/
theorem nxt_nxt_nxt (c : Dev nD) : nxt (nxt (nxt c)) = c + 3 := by revert c; decide

section

variable (WQ WO : Dev nD → S1024x1024.Idx → Elt Ideal .f32) (X : Dev nD → S1x1024x1024.Idx → Elt Ideal .f32)
variable (hX : ∀ (c : Fin 4) (i l : Fin 1024), X c (ix3 (0 : Fin 1) i l) = xx (ix3 c i l))
variable (hQ : ∀ (g : Fin 4) (l e : Fin 1024), WQ g (ix2 l e) = qq (ix2 l (groupCol g e)))
variable (hO : ∀ (g : Fin 4) (e n : Fin 1024), WO g (ix2 e n) = oo (ix2 (groupCol g e) n))
include hX hQ hO

/-- On every device the result's rows are the reference's. -/
theorem rows_eq (c : Dev nD) (b : Fin 4) (r : Fin 256) (n : Fin 1024) :
    rowsOf WQ WO X (fun _ => kk) (fun _ => vv) c b (ix2 r n)
      = ∑ e : Fin 4096, context xx qq kk vv c (headIn e) (rowAt b r) (placeIn e) * oo (ix2 e n) := by
  rw [sum_columns, ← sum_ring c]
  unfold rowsOf own opp right kept
  refine congrArg₂ (· + ·) (congrArg₂ (· + ·) (congrArg₂ (· + ·) ?_ ?_) ?_) ?_
  · exact group_eq xx qq kk vv oo c c b _ _ _ _ (hX c) (fun l e => (wqOwn_apply _ l e).trans (hQ c l e))
      (fun h j d => fromK_apply _ _ h c _ (offOwn_eq c h) j d) (fun h j d => fromV_apply _ _ h c _ (offOwn_eq c h) j d)
      _ (fun h d n => (woOwn_apply _ h d n).trans (hO c _ n)) r n
  · rw [prv_prv, nxt_nxt]
    exact group_eq xx qq kk vv oo c (c + 2) b _ _ _ _ (hX c) (fun l e => (wqSlot_apply _ _ l e).trans (hQ (c + 2) l e))
      (fun h j d => fromK_apply _ _ h c _ (offOpp_eq c h) j d) (fun h j d => fromV_apply _ _ h c _ (offOpp_eq c h) j d)
      _ (fun h d n => (woSlot_apply _ _ h d n).trans (hO (c + 2) _ n)) r n
  · rw [prv_prv_prv, nxt_eq]
    exact group_eq xx qq kk vv oo c (c + 1) b _ _ _ _ (hX c) (fun l e => (wqSlot_apply _ _ l e).trans (hQ (c + 1) l e))
      (fun h j d => fromK_apply _ _ h c _ (offRight_eq c h) j d) (fun h j d => fromV_apply _ _ h c _ (offRight_eq c h) j d)
      _ (fun h d n => (woSlot_apply _ _ h d n).trans (hO (c + 1) _ n)) r n
  · rw [nxt_nxt_nxt, prv_eq]
    exact group_eq xx qq kk vv oo c (c + 3) b _ _ _ _ (hX c) (fun l e => (wqSlot_apply _ _ l e).trans (hQ (c + 3) l e))
      (fun h j d => fromK_apply _ _ h c _ (offLeft_eq c h) j d) (fun h j d => fromV_apply _ _ h c _ (offLeft_eq c h) j d)
      _ (fun h d n => (woSlot_apply _ _ h d n).trans (hO (c + 3) _ n)) r n

/-- And so is the result. -/
theorem result_eq (c : Dev nD) (i n : Fin 1024) :
    resultOf WQ WO X (fun _ => kk) (fun _ => vv) c (ix3 (0 : Fin 1) i n)
      = ∑ e : Fin 4096, context xx qq kk vv c (headIn e) i (placeIn e) * oo (ix2 e n) := by
  have hi := i.isLt
  have h := rows_eq xx qq kk vv oo WQ WO X hX hQ hO c ⟨i / 256, by omega⟩ ⟨i % 256, Nat.mod_lt _ (by decide)⟩ n
  rw [show rowAt ⟨i / 256, by omega⟩ ⟨i % 256, Nat.mod_lt _ (by decide)⟩ = i from Fin.ext (Nat.div_add_mod i.val 256), ix2_eq_valueIdx] at h
  exact h

end

end Cert.RingAttn

end
-- ==== Proof.Value.lean ====
/-
# `Value`: the kernel computes the reference's result

Each device's arguments are its parts of the whole arrays, what it writes back is its whole result, and that result is
its part of the reference's.
-/
module

public import proofs.«01_k».proof.Defs
public import proofs.«01_k».proof.Proof.Frames
public import proofs.«01_k».proof.Proof.Groups
public import proofs.«01_k».proof.Proof.Finite
public import proofs.«01_k».proof.Proof.Gen.ReferenceIdeal.Run
public import Idealize.ShloMosaic.Lib.Pipeline.Value
public import Idealize.ShloMosaic.Lib.Layout

@[expose] public section

noncomputable section

namespace Cert.RingAttn

open Cert.KernelIdeal Cert.KernelIdeal.Gen
open Cert.RingMath

open Idealize.ShloMosaic
open Idealize.ShloMosaic.TcCoe
open Idealize.SL.Sem

/-! ## The arrays, whole -/

section

variable {F : FTy → Type} [FloatOps F] [Named F] [∀ e, Nonempty (Elt F e)]
variable (m : (ℓ : Loc nD τ sig) → Buf (Elt F) ℓ)

/-- Each staged argument is the device's whole argument. -/
theorem argX_eq (c : Dev nD) : argX m c = m ((c : Thread nD τ).loc main_arg0) := by
  funext i
  refine congrArg (m ((c : Thread nD τ).loc main_arg0)) (funext fun a => Fin.ext ?_)
  match a with
  | ⟨0, _⟩ => show 0 * 1 + 1 * (i 0).val = (i 0).val; omega
  | ⟨1, _⟩ => show 0 * 1024 + 1 * (i 1).val = (i 1).val; omega
  | ⟨2, _⟩ => show 0 * 1024 + 1 * (i 2).val = (i 2).val; omega

/-- The staged block of `Wq` is the whole argument, -/
theorem argQ_eq (c : Dev nD) : argQ m c = m ((c : Thread nD τ).loc main_arg1) := by
  funext i
  refine congrArg (m ((c : Thread nD τ).loc main_arg1)) (funext fun a => Fin.ext ?_)
  match a with
  | ⟨0, _⟩ => show 0 * 1024 + 1 * (i 0).val = (i 0).val; omega
  | ⟨1, _⟩ => show 0 * 1024 + 1 * (i 1).val = (i 1).val; omega

/-- and so is that of `Wo`. -/
theorem argO_eq (c : Dev nD) : argO m c = m ((c : Thread nD τ).loc main_arg4) := by
  funext i
  refine congrArg (m ((c : Thread nD τ).loc main_arg4)) (funext fun a => Fin.ext ?_)
  match a with
  | ⟨0, _⟩ => show 0 * 1024 + 1 * (i 0).val = (i 0).val; omega
  | ⟨1, _⟩ => show 0 * 1024 + 1 * (i 1).val = (i 1).val; omega

/-- What is written back of the result is the result, -/
theorem flushed_out (out : Dev nD → S1x1024x1024.Idx → Elt F .f32) (c : Dev nD) (t : Fin cfg0.N) :
    (dats m out 0 c).flushed 3 t = ((cfg0.win 3).blk t).view.read (Elt F) (out c) := by
  obtain rfl := fin_N t
  unfold Pipeline.Dat.flushed
  funext i
  refine congrArg (out c) (funext fun a => Fin.ext ?_)
  match a with
  | ⟨0, _⟩ => show (i 0).val = 0 * 1 + 1 * (i 0).val; omega
  | ⟨1, _⟩ => show (i 1).val = 0 * 1024 + 1 * (i 1).val; omega
  | ⟨2, _⟩ => show (i 2).val = 0 * 1024 + 1 * (i 2).val; omega

/-- all of it, -/
theorem cover_out (i : S1x1024x1024.Idx) : ∃ t : Fin cfg0.N, (cfg0.win 3).flush t = true ∧ i ∈ ((cfg0.win 3).blk t).view.set := by
  refine ⟨t₀, by decide, ?_⟩
  show i ∈ ((View.whole main_v1).slice (win0_3.rect t₀)).set
  rw [View.set_slice_whole, Rect.mem_set_unit]
  intro a
  match a with
  | ⟨0, _⟩ => exact ⟨Nat.zero_le _, by show (i 0).val < 0 * 1 + 1; have h : (i 0).val < 1 := (i 0).isLt; omega⟩
  | ⟨1, _⟩ => exact ⟨by show 0 * 1024 ≤ (i 1).val; omega, by show (i 1).val < 0 * 1024 + 1024; have h : (i 1).val < 1024 := (i 1).isLt; omega⟩
  | ⟨2, _⟩ => exact ⟨by show 0 * 1024 ≤ (i 2).val; omega, by show (i 2).val < 0 * 1024 + 1024; have h : (i 2).val < 1024 := (i 2).isLt; omega⟩

/-- so the result array ends as the run left the result. -/
theorem finalA_out (out : Dev nD → S1x1024x1024.Idx → Elt F .f32) (c : Dev nD) : finalA m out c 3 = out c :=
  (dats m out 0 c).arrAt_eq_of_cover 3 (out c) (fun t _ => flushed_out m out c t) cover_out

end

/-! ## The parts of the whole arrays -/

section

variable (c : Fin 4)

/-- An element of a device's part of `x` (and of the result), of `Wq`, of `Wo`, in the whole array. -/
theorem block_x (v : (⟨3, ![4, 1024, 1024]⟩ : Shape).Idx → EReal) (i l : Fin 1024) :
    Layout.block ⟨3, ![1, 1024, 1024]⟩ ⟨3, ![4, 1024, 1024]⟩ 0 4 c v (by decide) (ix3 (0 : Fin 1) i l) = v (ix3 c i l) := by
  refine congrArg v (funext fun a => Fin.ext ?_)
  match a with
  | ⟨0, _⟩ => show c.val * 1 + 0 = c.val; omega
  | ⟨1, _⟩ => rfl
  | ⟨2, _⟩ => rfl

/-- Device `c`'s block of `Wq` is the columns of its group. -/
theorem block_wq (v : (⟨2, ![1024, 4096]⟩ : Shape).Idx → EReal) (l e : Fin 1024) :
    Layout.block ⟨2, ![1024, 1024]⟩ ⟨2, ![1024, 4096]⟩ 1 4 c v (by decide) (ix2 l e) = v (ix2 l (groupCol c e)) := by
  refine congrArg v (funext fun a => Fin.ext ?_)
  match a with
  | ⟨0, _⟩ => rfl
  | ⟨1, _⟩ => show c.val * 1024 + e.val = 1024 * c.val + e.val; omega

/-- Device `c`'s block of `Wo` is the rows of its group. -/
theorem block_wo (v : (⟨2, ![4096, 1024]⟩ : Shape).Idx → EReal) (e n : Fin 1024) :
    Layout.block ⟨2, ![1024, 1024]⟩ ⟨2, ![4096, 1024]⟩ 0 4 c v (by decide) (ix2 e n) = v (ix2 (groupCol c e) n) := by
  refine congrArg v (funext fun a => Fin.ext ?_)
  match a with
  | ⟨0, _⟩ => show c.val * 1024 + e.val = 1024 * c.val + e.val; omega
  | ⟨1, _⟩ => rfl

end

/-! ## The claim -/

/-- Both programs run, and each device's result is its part of the reference's. -/
theorem algebraic : Cert.algebraic_KernelIdeal_ReferenceIdeal_pre_finite_KernelIdeal := by
  intro m g m' g' hpre hargs
  have hfin := fun c => Cert.RingFinite.real_of_finite _ _ _ _ _ (hpre c)
  let xx := m' (((0 : Dev Cert.ReferenceIdeal.nD).tc : Thread Cert.ReferenceIdeal.nD Cert.ReferenceIdeal.τ).loc Cert.ReferenceIdeal.main_arg0)
  let qq := m' (((0 : Dev Cert.ReferenceIdeal.nD).tc : Thread Cert.ReferenceIdeal.nD Cert.ReferenceIdeal.τ).loc Cert.ReferenceIdeal.main_arg1)
  let kk := m' (((0 : Dev Cert.ReferenceIdeal.nD).tc : Thread Cert.ReferenceIdeal.nD Cert.ReferenceIdeal.τ).loc Cert.ReferenceIdeal.main_arg2)
  let vv := m' (((0 : Dev Cert.ReferenceIdeal.nD).tc : Thread Cert.ReferenceIdeal.nD Cert.ReferenceIdeal.τ).loc Cert.ReferenceIdeal.main_arg3)
  let oo := m' (((0 : Dev Cert.ReferenceIdeal.nD).tc : Thread Cert.ReferenceIdeal.nD Cert.ReferenceIdeal.τ).loc Cert.ReferenceIdeal.main_arg4)
  have hX : ∀ (c : Fin 4) (i l : Fin 1024), argX m c (ix3 (0 : Fin 1) i l) = xx (ix3 c i l) := fun c i l => by
    rw [argX_eq]; exact (congrFun (hargs c).1 _).trans (block_x c _ i l)
  have hQ : ∀ (c : Fin 4) (l e : Fin 1024), argQ m c (ix2 l e) = qq (ix2 l (groupCol c e)) := fun c l e => by
    rw [argQ_eq]; exact (congrFun (hargs c).2.1 _).trans (block_wq c _ l e)
  have hO : ∀ (c : Fin 4) (e n : Fin 1024), argO m c (ix2 e n) = oo (ix2 (groupCol c e) n) := fun c e n => by
    rw [argO_eq]; exact (congrFun (hargs c).2.2.2.2 _).trans (block_wo c _ e n)
  have hK : argK m = fun _ => kk := funext fun c => (hargs c).2.2.1
  have hV : argV m = fun _ => vv := funext fun c => (hargs c).2.2.2.1
  have hs : ∀ b h i j, IsReal (Cert.RingRef.score xx qq kk b h i j) := fun b h i j => by
    obtain ⟨s, -, hs⟩ := scale_real
    unfold Cert.RingRef.score
    refine IsReal.mul (IsReal.sum _ _ fun d => IsReal.mul (IsReal.sum _ _ fun l => IsReal.mul ?_ ?_) ?_) ⟨s, hs⟩
    · rw [← hX, argX_eq]; exact (hfin b).1 _
    · have he : (h : ℕ) * 128 + d < 4096 := by have := h.isLt; have := d.isLt; omega
      have e := hQ ⟨(h * 128 + d) / 1024, by omega⟩ l ⟨(h * 128 + d) % 1024, Nat.mod_lt _ (by decide)⟩
      rw [show groupCol ⟨(h * 128 + d) / 1024, by omega⟩ ⟨(h * 128 + d) % 1024, Nat.mod_lt _ (by decide)⟩ = ⟨h * 128 + d, he⟩ from Fin.ext (Nat.div_add_mod _ _)] at e
      rw [← e, argQ_eq]; exact (hfin _).2.1 _
    · have e : kk = m (((0 : Fin 4) : Thread nD τ).loc main_arg2) := ((hargs 0).2.2.1).symm
      rw [e]; exact (hfin 0).2.2 _
  refine ⟨Cert.ReferenceIdeal.Value.res_out0 m' 0, ?_, ?_⟩
  · refine (θ_run Cert.KernelIdeal.defs _ _).mono (fun r h c => ⟨(h.1 c).1.trans ?_, (h.1 c).2⟩) (run_ends (F := Ideal) m g)
    rw [finalA_out]
    unfold outOf
    rw [hK, hV]
    funext i
    obtain ⟨p, i', n, rfl⟩ : ∃ (p : Fin 1) (i' n : Fin 1024), i = ix3 p i' n := ⟨i 0, i 1, i 2, by funext a; match a with | ⟨0, _⟩ => rfl | ⟨1, _⟩ => rfl | ⟨2, _⟩ => rfl⟩
    obtain rfl : p = 0 := Subsingleton.elim _ _
    rw [result_eq xx qq kk vv oo _ _ _ hX hQ hO]
    refine Eq.trans ?_ (block_x c _ i' n).symm
    rw [Cert.RingRef.res_eq]
    exact (Cert.RingRef.reference_apply xx qq kk vv oo hs c i' n).symm
  · exact (θ_run Cert.ReferenceIdeal.defs _ _).mono (fun r h => h 0) (Cert.ReferenceIdeal.Value.run (F := Ideal) m' g')

end Cert.RingAttn

end
-- ==== Proof.lean ====
/-
# The claims

Sliding-window attention over a ring of four devices: both kernels run, on every interleaving, and leave their arguments
and semaphores as they were (Proof/Frames.lean); the reference runs; the idealized kernel is the kernel with its mask
constant named; and the idealized kernel computes the reference's result (Proof/Value.lean).
-/
module

public import proofs.«01_k».proof.Defs
public import proofs.«01_k».proof.Proof.Frames
public import proofs.«01_k».proof.Proof.Finite
public import proofs.«01_k».proof.Proof.Value
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, keeps its arguments, and has no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask is the table's value where it is named, and its word's where it is not. -/
theorem preserves : Cert.preserves_Kernel_KernelIdeal :=
  IdealRules.named_const.statement Cert.KernelIdeal.κ "mask" .f32 0xCE6E6B28#32 ⊥ rfl

theorem claim : Cert.Claim := ⟨Cert.Kernel.Gen.facts, Cert.KernelIdeal.Gen.facts, Cert.ReferenceIdeal.Gen.facts,
  Cert.Pre_finite_KernelIdeal.facts, Cert.Pre_finite_ReferenceIdeal.facts,
  Cert.RingAttn.frame_kernel, Cert.RingAttn.frame_kernelIdeal, fun m ρ _ => Cert.RingAttn.frame_kernelIdeal m ρ trivial,
  frame_reference, fun m ρ _ => frame_reference m ρ trivial, preserves, Cert.RingAttn.algebraic⟩

end Cert.Proof

end
